-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_on_wire_KernelIdeal [hPre_on_wire_KernelIdeal : Cert.Pre_on_wire_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_on_wire_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_on_wire_ReferenceIdeal [hPre_on_wire_ReferenceIdeal : Cert.Pre_on_wire_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_on_wire_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_WireReferenceIdeal (m : (ℓ : Loc Cert.WireReferenceIdeal.nD Cert.WireReferenceIdeal.τ Cert.WireReferenceIdeal.sig) → Buf (Elt Ideal) ℓ) : Prop :=
  True

def Pre_WireReferenceIdeal_finite_WireReferenceIdeal [hPre_finite_WireReferenceIdeal : Cert.Pre_finite_WireReferenceIdeal.Facts] (m : (ℓ : Loc Cert.WireReferenceIdeal.nD Cert.WireReferenceIdeal.τ Cert.WireReferenceIdeal.sig) → Buf (Elt Ideal) ℓ) : Prop :=
  ∀ c : Dev Cert.WireReferenceIdeal.nD,
    (Cert.Pre_finite_WireReferenceIdeal.fn (F := Ideal) (m ((c.tc : Thread Cert.WireReferenceIdeal.nD Cert.WireReferenceIdeal.τ).loc Cert.WireReferenceIdeal.main_arg0)) (m ((c.tc : Thread Cert.WireReferenceIdeal.nD Cert.WireReferenceIdeal.τ).loc Cert.WireReferenceIdeal.main_arg1)) (m ((c.tc : Thread Cert.WireReferenceIdeal.nD Cert.WireReferenceIdeal.τ).loc Cert.WireReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_on_wire_KernelIdeal [hKernelIdeal : Cert.KernelIdeal.Facts] [hPre_on_wire_KernelIdeal : Cert.Pre_on_wire_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_on_wire_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_on_wire_ReferenceIdeal [hReferenceIdeal : Cert.ReferenceIdeal.Facts] [hPre_on_wire_ReferenceIdeal : Cert.Pre_on_wire_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_on_wire_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_WireReferenceIdeal [hWireReferenceIdeal : Cert.WireReferenceIdeal.Facts] : Prop :=
  ∀ (m : (ℓ : Loc Cert.WireReferenceIdeal.nD Cert.WireReferenceIdeal.τ Cert.WireReferenceIdeal.sig) → Buf (Elt Ideal) ℓ) (g : Dev Cert.WireReferenceIdeal.nD → PrngReg), Pre_WireReferenceIdeal m →
    θ_run (Cert.WireReferenceIdeal.defs (F := Ideal)) (onTc (τ := Cert.WireReferenceIdeal.τ) (Cert.WireReferenceIdeal.main (F := Ideal))) ⟨m, fun _ => 0, g⟩ (fun r => (∀ c : Dev Cert.WireReferenceIdeal.nD,
      r.2.mem ((c.tc : Thread Cert.WireReferenceIdeal.nD Cert.WireReferenceIdeal.τ).loc Cert.WireReferenceIdeal.main_arg0) = m ((c.tc : Thread Cert.WireReferenceIdeal.nD Cert.WireReferenceIdeal.τ).loc Cert.WireReferenceIdeal.main_arg0)
      ∧ r.2.mem ((c.tc : Thread Cert.WireReferenceIdeal.nD Cert.WireReferenceIdeal.τ).loc Cert.WireReferenceIdeal.main_arg1) = m ((c.tc : Thread Cert.WireReferenceIdeal.nD Cert.WireReferenceIdeal.τ).loc Cert.WireReferenceIdeal.main_arg1)
      ∧ r.2.mem ((c.tc : Thread Cert.WireReferenceIdeal.nD Cert.WireReferenceIdeal.τ).loc Cert.WireReferenceIdeal.main_arg2) = m ((c.tc : Thread Cert.WireReferenceIdeal.nD Cert.WireReferenceIdeal.τ).loc Cert.WireReferenceIdeal.main_arg2))
      ∧ r.2.sem = fun _ => 0)

def quiescent_WireReferenceIdeal_pre_finite_WireReferenceIdeal [hWireReferenceIdeal : Cert.WireReferenceIdeal.Facts] [hPre_finite_WireReferenceIdeal : Cert.Pre_finite_WireReferenceIdeal.Facts] : Prop :=
  ∀ (m : (ℓ : Loc Cert.WireReferenceIdeal.nD Cert.WireReferenceIdeal.τ Cert.WireReferenceIdeal.sig) → Buf (Elt Ideal) ℓ) (g : Dev Cert.WireReferenceIdeal.nD → PrngReg), Pre_WireReferenceIdeal_finite_WireReferenceIdeal m →
    θ_run (Cert.WireReferenceIdeal.defs (F := Ideal)) (onTc (τ := Cert.WireReferenceIdeal.τ) (Cert.WireReferenceIdeal.main (F := Ideal))) ⟨m, fun _ => 0, g⟩ (fun r => (∀ c : Dev Cert.WireReferenceIdeal.nD,
      r.2.mem ((c.tc : Thread Cert.WireReferenceIdeal.nD Cert.WireReferenceIdeal.τ).loc Cert.WireReferenceIdeal.main_arg0) = m ((c.tc : Thread Cert.WireReferenceIdeal.nD Cert.WireReferenceIdeal.τ).loc Cert.WireReferenceIdeal.main_arg0)
      ∧ r.2.mem ((c.tc : Thread Cert.WireReferenceIdeal.nD Cert.WireReferenceIdeal.τ).loc Cert.WireReferenceIdeal.main_arg1) = m ((c.tc : Thread Cert.WireReferenceIdeal.nD Cert.WireReferenceIdeal.τ).loc Cert.WireReferenceIdeal.main_arg1)
      ∧ r.2.mem ((c.tc : Thread Cert.WireReferenceIdeal.nD Cert.WireReferenceIdeal.τ).loc Cert.WireReferenceIdeal.main_arg2) = m ((c.tc : Thread Cert.WireReferenceIdeal.nD Cert.WireReferenceIdeal.τ).loc Cert.WireReferenceIdeal.main_arg2))
      ∧ r.2.sem = fun _ => 0)

def preserves_Kernel_KernelIdeal : Prop :=
  True

def algebraic_KernelIdeal_WireReferenceIdeal_pre_finite_KernelIdeal [hKernelIdeal : Cert.KernelIdeal.Facts] [hWireReferenceIdeal : Cert.WireReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.WireReferenceIdeal.nD Cert.WireReferenceIdeal.τ Cert.WireReferenceIdeal.sig) → Buf (Elt Ideal) ℓ) (g' : Dev Cert.WireReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨4, ![2, 512, 8, 64]⟩ ⟨4, ![2, 1024, 8, 64]⟩ (Layout.meshBlock [2, 4, 4] ![[], [0], [], []] c) (m' (((0 : Dev Cert.WireReferenceIdeal.nD).tc : Thread Cert.WireReferenceIdeal.nD Cert.WireReferenceIdeal.τ).loc Cert.WireReferenceIdeal.main_arg0))
      ∧ m ((c.tc : Thread Cert.KernelIdeal.nD Cert.KernelIdeal.τ).loc Cert.KernelIdeal.main_arg1) = Layout.blockN ⟨4, ![2, 512, 8, 64]⟩ ⟨4, ![2, 1024, 8, 64]⟩ (Layout.meshBlock [2, 4, 4] ![[], [0], [], []] c) (m' (((0 : Dev Cert.WireReferenceIdeal.nD).tc : Thread Cert.WireReferenceIdeal.nD Cert.WireReferenceIdeal.τ).loc Cert.WireReferenceIdeal.main_arg1))
      ∧ m ((c.tc : Thread Cert.KernelIdeal.nD Cert.KernelIdeal.τ).loc Cert.KernelIdeal.main_arg2) = Layout.blockN ⟨4, ![2, 512, 8, 64]⟩ ⟨4, ![2, 1024, 8, 64]⟩ (Layout.meshBlock [2, 4, 4] ![[], [0], [], []] c) (m' (((0 : Dev Cert.WireReferenceIdeal.nD).tc : Thread Cert.WireReferenceIdeal.nD Cert.WireReferenceIdeal.τ).loc Cert.WireReferenceIdeal.main_arg2))) →
    ∃ (v0 : Buf (Elt Ideal) (((0 : Dev Cert.WireReferenceIdeal.nD).tc : Thread Cert.WireReferenceIdeal.nD Cert.WireReferenceIdeal.τ).loc Cert.WireReferenceIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = Layout.blockN ⟨4, ![2, 512, 8, 64]⟩ ⟨4, ![2, 1024, 8, 64]⟩ (Layout.meshBlock [2, 4, 4] ![[], [0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.WireReferenceIdeal.defs (F := Ideal)) (onTc (τ := Cert.WireReferenceIdeal.τ) (Cert.WireReferenceIdeal.main (F := Ideal))) ⟨m', fun _ => 0, g'⟩ (fun r =>
          r.2.mem (((0 : Dev Cert.WireReferenceIdeal.nD).tc : Thread Cert.WireReferenceIdeal.nD Cert.WireReferenceIdeal.τ).loc Cert.WireReferenceIdeal.main_v78) = v0
          ∧ r.2.mem (((0 : Dev Cert.WireReferenceIdeal.nD).tc : Thread Cert.WireReferenceIdeal.nD Cert.WireReferenceIdeal.τ).loc Cert.WireReferenceIdeal.main_arg0) = m' (((0 : Dev Cert.WireReferenceIdeal.nD).tc : Thread Cert.WireReferenceIdeal.nD Cert.WireReferenceIdeal.τ).loc Cert.WireReferenceIdeal.main_arg0)
          ∧ r.2.mem (((0 : Dev Cert.WireReferenceIdeal.nD).tc : Thread Cert.WireReferenceIdeal.nD Cert.WireReferenceIdeal.τ).loc Cert.WireReferenceIdeal.main_arg1) = m' (((0 : Dev Cert.WireReferenceIdeal.nD).tc : Thread Cert.WireReferenceIdeal.nD Cert.WireReferenceIdeal.τ).loc Cert.WireReferenceIdeal.main_arg1)
          ∧ r.2.mem (((0 : Dev Cert.WireReferenceIdeal.nD).tc : Thread Cert.WireReferenceIdeal.nD Cert.WireReferenceIdeal.τ).loc Cert.WireReferenceIdeal.main_arg2) = m' (((0 : Dev Cert.WireReferenceIdeal.nD).tc : Thread Cert.WireReferenceIdeal.nD Cert.WireReferenceIdeal.τ).loc Cert.WireReferenceIdeal.main_arg2))

def algebraic_KernelIdeal_ReferenceIdeal_pre_on_wire_KernelIdeal [hKernelIdeal : Cert.KernelIdeal.Facts] [hReferenceIdeal : Cert.ReferenceIdeal.Facts] [hPre_on_wire_KernelIdeal : Cert.Pre_on_wire_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_on_wire_KernelIdeal m →
    (∀ c : Dev Cert.KernelIdeal.nD,
      m ((c.tc : Thread Cert.KernelIdeal.nD Cert.KernelIdeal.τ).loc Cert.KernelIdeal.main_arg0) = Layout.blockN ⟨4, ![2, 512, 8, 64]⟩ ⟨4, ![2, 1024, 8, 64]⟩ (Layout.meshBlock [2, 4, 4] ![[], [0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 512, 8, 64]⟩ ⟨4, ![2, 1024, 8, 64]⟩ (Layout.meshBlock [2, 4, 4] ![[], [0], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 512, 8, 64]⟩ ⟨4, ![2, 1024, 8, 64]⟩ (Layout.meshBlock [2, 4, 4] ![[], [0], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = Layout.blockN ⟨4, ![2, 512, 8, 64]⟩ ⟨4, ![2, 1024, 8, 64]⟩ (Layout.meshBlock [2, 4, 4] ![[], [0], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hWireReferenceIdeal : Cert.WireReferenceIdeal.Facts) (hPre_finite_KernelIdeal : Cert.Pre_finite_KernelIdeal.Facts) (hPre_on_wire_KernelIdeal : Cert.Pre_on_wire_KernelIdeal.Facts) (hPre_on_wire_ReferenceIdeal : Cert.Pre_on_wire_ReferenceIdeal.Facts) (hPre_finite_WireReferenceIdeal : Cert.Pre_finite_WireReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_KernelIdeal_pre_on_wire_KernelIdeal (hKernelIdeal := hKernelIdeal) (hPre_on_wire_KernelIdeal := hPre_on_wire_KernelIdeal)
    ∧ quiescent_ReferenceIdeal (hReferenceIdeal := hReferenceIdeal)
    ∧ quiescent_ReferenceIdeal_pre_on_wire_ReferenceIdeal (hReferenceIdeal := hReferenceIdeal) (hPre_on_wire_ReferenceIdeal := hPre_on_wire_ReferenceIdeal)
    ∧ quiescent_WireReferenceIdeal (hWireReferenceIdeal := hWireReferenceIdeal)
    ∧ quiescent_WireReferenceIdeal_pre_finite_WireReferenceIdeal (hWireReferenceIdeal := hWireReferenceIdeal) (hPre_finite_WireReferenceIdeal := hPre_finite_WireReferenceIdeal)
    ∧ preserves_Kernel_KernelIdeal
    ∧ algebraic_KernelIdeal_WireReferenceIdeal_pre_finite_KernelIdeal (hKernelIdeal := hKernelIdeal) (hWireReferenceIdeal := hWireReferenceIdeal) (hPre_finite_KernelIdeal := hPre_finite_KernelIdeal)
    ∧ algebraic_KernelIdeal_ReferenceIdeal_pre_on_wire_KernelIdeal (hKernelIdeal := hKernelIdeal) (hReferenceIdeal := hReferenceIdeal) (hPre_on_wire_KernelIdeal := hPre_on_wire_KernelIdeal)
-- ==== Pre_finite_KernelIdeal.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)
  reducesTo_S2x512x8x64_S_d0_1_2_3 : S2x512x8x64.ReducesTo [0, 1, 2, 3] S_
  h_S_ : 0 < S_.numel

variable [Facts]

def fn {F : FTy → Type} [FloatOps F] (main_arg0 : FVec F S2x512x8x64 .f32) (main_arg1 : FVec F S2x512x8x64 .f32) (main_arg2 : FVec F S2x512x8x64 .f32) : IVec S_ 1 :=
  let main_v0 : FVec F S2x512x8x64 .f32 := Host.absf main_arg0
  let main_cst : FVec F S_ .f32 := constant S_ .f32 0x7F800000#32
  let main_v1 : FVec F S2x512x8x64 .f32 := broadcastInDim S2x512x8x64 ![] bcast_S_S2x512x8x64 main_cst
  let main_v2 : IVec S2x512x8x64 1 := cmpf .olt main_v0 main_v1
  let main_c : IVec S_ 1 := constantI S_ 1 1#1
  let main_v3 : IVec S_ 1 := (fun x v => Host.reduce IntOp.andi x v reducesTo_S2x512x8x64_S_d0_1_2_3 h_S_) main_v2 main_c
  let main_v4 : FVec F S2x512x8x64 .f32 := Host.absf main_arg1
  let main_cst_0 : FVec F S_ .f32 := constant S_ .f32 0x7F800000#32
  let main_v5 : FVec F S2x512x8x64 .f32 := broadcastInDim S2x512x8x64 ![] bcast_S_S2x512x8x64 main_cst_0
  let main_v6 : IVec S2x512x8x64 1 := cmpf .olt main_v4 main_v5
  let main_c_1 : IVec S_ 1 := constantI S_ 1 1#1
  let main_v7 : IVec S_ 1 := (fun x v => Host.reduce IntOp.andi x v reducesTo_S2x512x8x64_S_d0_1_2_3 h_S_) main_v6 main_c_1
  let main_v8 : IVec S_ 1 := andi main_v3 main_v7
  main_v8
-- ==== Pre_finite_WireReferenceIdeal.lean ====
abbrev S2x1024x8x64 : Shape := ⟨4, ![2, 1024, 8, 64]⟩
abbrev S_ : Shape := ⟨0, ![]⟩

class Facts : Prop where
  bcast_S_S2x1024x8x64 : S_.BroadcastsInDim S2x1024x8x64 (![] : Fin 0 → Fin S2x1024x8x64.rank)
  reducesTo_S2x1024x8x64_S_d0_1_2_3 : S2x1024x8x64.ReducesTo [0, 1, 2, 3] S_
  h_S_ : 0 < S_.numel

variable [Facts]

def fn {F : FTy → Type} [FloatOps F] (main_arg0 : FVec F S2x1024x8x64 .f32) (main_arg1 : FVec F S2x1024x8x64 .f32) (main_arg2 : FVec F S2x1024x8x64 .f32) : IVec S_ 1 :=
  let main_v0 : FVec F S2x1024x8x64 .f32 := Host.absf main_arg0
  let main_cst : FVec F S_ .f32 := constant S_ .f32 0x7F800000#32
  let main_v1 : FVec F S2x1024x8x64 .f32 := broadcastInDim S2x1024x8x64 ![] bcast_S_S2x1024x8x64 main_cst
  let main_v2 : IVec S2x1024x8x64 1 := cmpf .olt main_v0 main_v1
  let main_c : IVec S_ 1 := constantI S_ 1 1#1
  let main_v3 : IVec S_ 1 := (fun x v => Host.reduce IntOp.andi x v reducesTo_S2x1024x8x64_S_d0_1_2_3 h_S_) main_v2 main_c
  let main_v4 : FVec F S2x1024x8x64 .f32 := Host.absf main_arg1
  let main_cst_0 : FVec F S_ .f32 := constant S_ .f32 0x7F800000#32
  let main_v5 : FVec F S2x1024x8x64 .f32 := broadcastInDim S2x1024x8x64 ![] bcast_S_S2x1024x8x64 main_cst_0
  let main_v6 : IVec S2x1024x8x64 1 := cmpf .olt main_v4 main_v5
  let main_c_1 : IVec S_ 1 := constantI S_ 1 1#1
  let main_v7 : IVec S_ 1 := (fun x v => Host.reduce IntOp.andi x v reducesTo_S2x1024x8x64_S_d0_1_2_3 h_S_) main_v6 main_c_1
  let main_v8 : IVec S_ 1 := andi main_v3 main_v7
  main_v8
-- ==== Pre_on_wire_KernelIdeal.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)
  reducesTo_S2x512x8x64_S_d0_1_2_3 : S2x512x8x64.ReducesTo [0, 1, 2, 3] S_
  h_S_ : 0 < S_.numel

variable [Facts]

def fn_part1 {F : FTy → Type} [FloatOps F] (main_arg2 : FVec F S2x512x8x64 .f32) (main_v15 : IVec S_ 1) (main_cst_5 : FVec F S_ .f32) : IVec S_ 1 :=
  let main_v16 : FVec F S2x512x8x64 .f32 := broadcastInDim S2x512x8x64 ![] bcast_S_S2x512x8x64 main_cst_5
  let main_v17 : FVec F S2x512x8x64 .f32 := mulf main_arg2 main_v16
  let main_v18 : FVec F S2x512x8x64 .f32 := Host.roundeven main_v17
  let main_cst_6 : FVec F S_ .f32 := constant S_ .f32 0xC3000000#32
  let main_v19 : FVec F S2x512x8x64 .f32 := broadcastInDim S2x512x8x64 ![] bcast_S_S2x512x8x64 main_cst_6
  let main_v20 : FVec F S2x512x8x64 .f32 := maximumf main_v18 main_v19
  let main_cst_7 : FVec F S_ .f32 := constant S_ .f32 0x42FE0000#32
  let main_v21 : FVec F S2x512x8x64 .f32 := broadcastInDim S2x512x8x64 ![] bcast_S_S2x512x8x64 main_cst_7
  let main_v22 : FVec F S2x512x8x64 .f32 := minimumf main_v20 main_v21
  let main_cst_8 : FVec F S_ .f32 := constant S_ .f32 0x3D2AAAAB#32
  let main_v23 : FVec F S2x512x8x64 .f32 := broadcastInDim S2x512x8x64 ![] bcast_S_S2x512x8x64 main_cst_8
  let main_v24 : FVec F S2x512x8x64 .f32 := mulf main_v22 main_v23
  let main_v25 : IVec S2x512x8x64 1 := cmpf .oeq main_v24 main_arg2
  let main_c_9 : IVec S_ 1 := constantI S_ 1 1#1
  let main_v26 : IVec S_ 1 := (fun x v => Host.reduce IntOp.andi x v reducesTo_S2x512x8x64_S_d0_1_2_3 h_S_) main_v25 main_c_9
  let main_v27 : IVec S_ 1 := andi main_v15 main_v26
  main_v27

def fn {F : FTy → Type} [FloatOps F] (main_arg0 : FVec F S2x512x8x64 .f32) (main_arg1 : FVec F S2x512x8x64 .f32) (main_arg2 : FVec F S2x512x8x64 .f32) : IVec S_ 1 :=
  let main_v0 : FVec F S2x512x8x64 .f32 := Host.absf main_arg0
  let main_cst : FVec F S_ .f32 := constant S_ .f32 0x7F800000#32
  let main_v1 : FVec F S2x512x8x64 .f32 := broadcastInDim S2x512x8x64 ![] bcast_S_S2x512x8x64 main_cst
  let main_v2 : IVec S2x512x8x64 1 := cmpf .olt main_v0 main_v1
  let main_c : IVec S_ 1 := constantI S_ 1 1#1
  let main_v3 : IVec S_ 1 := (fun x v => Host.reduce IntOp.andi x v reducesTo_S2x512x8x64_S_d0_1_2_3 h_S_) main_v2 main_c
  let main_cst_0 : FVec F S_ .f32 := constant S_ .f32 0x41C00000#32
  let main_v4 : FVec F S2x512x8x64 .f32 := broadcastInDim S2x512x8x64 ![] bcast_S_S2x512x8x64 main_cst_0
  let main_v5 : FVec F S2x512x8x64 .f32 := mulf main_arg1 main_v4
  let main_v6 : FVec F S2x512x8x64 .f32 := Host.roundeven main_v5
  let main_cst_1 : FVec F S_ .f32 := constant S_ .f32 0xC3000000#32
  let main_v7 : FVec F S2x512x8x64 .f32 := broadcastInDim S2x512x8x64 ![] bcast_S_S2x512x8x64 main_cst_1
  let main_v8 : FVec F S2x512x8x64 .f32 := maximumf main_v6 main_v7
  let main_cst_2 : FVec F S_ .f32 := constant S_ .f32 0x42FE0000#32
  let main_v9 : FVec F S2x512x8x64 .f32 := broadcastInDim S2x512x8x64 ![] bcast_S_S2x512x8x64 main_cst_2
  let main_v10 : FVec F S2x512x8x64 .f32 := minimumf main_v8 main_v9
  let main_cst_3 : FVec F S_ .f32 := constant S_ .f32 0x3D2AAAAB#32
  let main_v11 : FVec F S2x512x8x64 .f32 := broadcastInDim S2x512x8x64 ![] bcast_S_S2x512x8x64 main_cst_3
  let main_v12 : FVec F S2x512x8x64 .f32 := mulf main_v10 main_v11
  let main_v13 : IVec S2x512x8x64 1 := cmpf .oeq main_v12 main_arg1
  let main_c_4 : IVec S_ 1 := constantI S_ 1 1#1
  let main_v14 : IVec S_ 1 := (fun x v => Host.reduce IntOp.andi x v reducesTo_S2x512x8x64_S_d0_1_2_3 h_S_) main_v13 main_c_4
  let main_v15 : IVec S_ 1 := andi main_v3 main_v14
  let main_cst_5 : FVec F S_ .f32 := constant S_ .f32 0x41C00000#32
  fn_part1 (F := F) main_arg2 main_v15 main_cst_5
-- ==== Pre_on_wire_ReferenceIdeal.lean ====
abbrev S2x1024x8x64 : Shape := ⟨4, ![2, 1024, 8, 64]⟩
abbrev S_ : Shape := ⟨0, ![]⟩

class Facts : Prop where
  bcast_S_S2x1024x8x64 : S_.BroadcastsInDim S2x1024x8x64 (![] : Fin 0 → Fin S2x1024x8x64.rank)
  reducesTo_S2x1024x8x64_S_d0_1_2_3 : S2x1024x8x64.ReducesTo [0, 1, 2, 3] S_
  h_S_ : 0 < S_.numel

variable [Facts]

def fn_part1 {F : FTy → Type} [FloatOps F] (main_arg2 : FVec F S2x1024x8x64 .f32) (main_v15 : IVec S_ 1) (main_cst_5 : FVec F S_ .f32) : IVec S_ 1 :=
  let main_v16 : FVec F S2x1024x8x64 .f32 := broadcastInDim S2x1024x8x64 ![] bcast_S_S2x1024x8x64 main_cst_5
  let main_v17 : FVec F S2x1024x8x64 .f32 := mulf main_arg2 main_v16
  let main_v18 : FVec F S2x1024x8x64 .f32 := Host.roundeven main_v17
  let main_cst_6 : FVec F S_ .f32 := constant S_ .f32 0xC3000000#32
  let main_v19 : FVec F S2x1024x8x64 .f32 := broadcastInDim S2x1024x8x64 ![] bcast_S_S2x1024x8x64 main_cst_6
  let main_v20 : FVec F S2x1024x8x64 .f32 := maximumf main_v18 main_v19
  let main_cst_7 : FVec F S_ .f32 := constant S_ .f32 0x42FE0000#32
  let main_v21 : FVec F S2x1024x8x64 .f32 := broadcastInDim S2x1024x8x64 ![] bcast_S_S2x1024x8x64 main_cst_7
  let main_v22 : FVec F S2x1024x8x64 .f32 := minimumf main_v20 main_v21
  let main_cst_8 : FVec F S_ .f32 := constant S_ .f32 0x3D2AAAAB#32
  let main_v23 : FVec F S2x1024x8x64 .f32 := broadcastInDim S2x1024x8x64 ![] bcast_S_S2x1024x8x64 main_cst_8
  let main_v24 : FVec F S2x1024x8x64 .f32 := mulf main_v22 main_v23
  let main_v25 : IVec S2x1024x8x64 1 := cmpf .oeq main_v24 main_arg2
  let main_c_9 : IVec S_ 1 := constantI S_ 1 1#1
  let main_v26 : IVec S_ 1 := (fun x v => Host.reduce IntOp.andi x v reducesTo_S2x1024x8x64_S_d0_1_2_3 h_S_) main_v25 main_c_9
  let main_v27 : IVec S_ 1 := andi main_v15 main_v26
  main_v27

def fn {F : FTy → Type} [FloatOps F] (main_arg0 : FVec F S2x1024x8x64 .f32) (main_arg1 : FVec F S2x1024x8x64 .f32) (main_arg2 : FVec F S2x1024x8x64 .f32) : IVec S_ 1 :=
  let main_v0 : FVec F S2x1024x8x64 .f32 := Host.absf main_arg0
  let main_cst : FVec F S_ .f32 := constant S_ .f32 0x7F800000#32
  let main_v1 : FVec F S2x1024x8x64 .f32 := broadcastInDim S2x1024x8x64 ![] bcast_S_S2x1024x8x64 main_cst
  let main_v2 : IVec S2x1024x8x64 1 := cmpf .olt main_v0 main_v1
  let main_c : IVec S_ 1 := constantI S_ 1 1#1
  let main_v3 : IVec S_ 1 := (fun x v => Host.reduce IntOp.andi x v reducesTo_S2x1024x8x64_S_d0_1_2_3 h_S_) main_v2 main_c
  let main_cst_0 : FVec F S_ .f32 := constant S_ .f32 0x41C00000#32
  let main_v4 : FVec F S2x1024x8x64 .f32 := broadcastInDim S2x1024x8x64 ![] bcast_S_S2x1024x8x64 main_cst_0
  let main_v5 : FVec F S2x1024x8x64 .f32 := mulf main_arg1 main_v4
  let main_v6 : FVec F S2x1024x8x64 .f32 := Host.roundeven main_v5
  let main_cst_1 : FVec F S_ .f32 := constant S_ .f32 0xC3000000#32
  let main_v7 : FVec F S2x1024x8x64 .f32 := broadcastInDim S2x1024x8x64 ![] bcast_S_S2x1024x8x64 main_cst_1
  let main_v8 : FVec F S2x1024x8x64 .f32 := maximumf main_v6 main_v7
  let main_cst_2 : FVec F S_ .f32 := constant S_ .f32 0x42FE0000#32
  let main_v9 : FVec F S2x1024x8x64 .f32 := broadcastInDim S2x1024x8x64 ![] bcast_S_S2x1024x8x64 main_cst_2
  let main_v10 : FVec F S2x1024x8x64 .f32 := minimumf main_v8 main_v9
  let main_cst_3 : FVec F S_ .f32 := constant S_ .f32 0x3D2AAAAB#32
  let main_v11 : FVec F S2x1024x8x64 .f32 := broadcastInDim S2x1024x8x64 ![] bcast_S_S2x1024x8x64 main_cst_3
  let main_v12 : FVec F S2x1024x8x64 .f32 := mulf main_v10 main_v11
  let main_v13 : IVec S2x1024x8x64 1 := cmpf .oeq main_v12 main_arg1
  let main_c_4 : IVec S_ 1 := constantI S_ 1 1#1
  let main_v14 : IVec S_ 1 := (fun x v => Host.reduce IntOp.andi x v reducesTo_S2x1024x8x64_S_d0_1_2_3 h_S_) main_v13 main_c_4
  let main_v15 : IVec S_ 1 := andi main_v3 main_v14
  let main_cst_5 : FVec F S_ .f32 := constant S_ .f32 0x41C00000#32
  fn_part1 (F := F) main_arg2 main_v15 main_cst_5
-- ==== Kernel.lean ====
abbrev S2x512x8x64 : Shape := ⟨4, ![2, 512, 8, 64]⟩
abbrev S2x8x512x64 : Shape := ⟨4, ![2, 8, 512, 64]⟩
abbrev S16x512x64 : Shape := ⟨3, ![16, 512, 64]⟩
abbrev S16x512x1 : Shape := ⟨3, ![16, 512, 1]⟩
abbrev S16 : Shape := ⟨1, ![16]⟩
abbrev S_ : Shape := ⟨0, ![]⟩
abbrev S1x512x64 : Shape := ⟨3, ![1, 512, 64]⟩
abbrev S1 : Shape := ⟨1, ![1]⟩
abbrev S512x64 : Shape := ⟨2, ![512, 64]⟩
abbrev S512x512 : Shape := ⟨2, ![512, 512]⟩
abbrev S512 : Shape := ⟨1, ![512]⟩
abbrev S512x1 : Shape := ⟨2, ![512, 1]⟩
abbrev S1x512x1 : Shape := ⟨3, ![1, 512, 1]⟩

abbrev nBuf : Space → Nat
  | .hbm => 12
  | .vmem => 10
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x512x8x64, .f32⟩
  | .hbm, ⟨3, _⟩ => ⟨S2x8x512x64, .f32⟩
  | .hbm, ⟨4, _⟩ => ⟨S16x512x64, .f32⟩
  | .hbm, ⟨5, _⟩ => ⟨S2x8x512x64, .f32⟩
  | .hbm, ⟨6, _⟩ => ⟨S16x512x64, .f32⟩
  | .hbm, ⟨7, _⟩ => ⟨S2x8x512x64, .f32⟩
  | .hbm, ⟨8, _⟩ => ⟨S16x512x64, .f32⟩
  | .hbm, ⟨9, _⟩ => ⟨S16x512x64, .f32⟩
  | .hbm, ⟨10, _⟩ => ⟨S2x8x512x64, .f32⟩
  | .hbm, ⟨11, _⟩ => ⟨S2x512x8x64, .f32⟩
  | .local _ .vmem, ⟨0, _⟩ => ⟨S16x512x64, .f32⟩
  | .local _ .vmem, ⟨1, _⟩ => ⟨S16x512x64, .f32⟩
  | .local _ .vmem, ⟨2, _⟩ => ⟨S16x512x64, .f32⟩
  | .local _ .vmem, ⟨3, _⟩ => ⟨S16x512x64, .f32⟩
  | .local _ .vmem, ⟨4, _⟩ => ⟨S16x512x64, .bf16⟩
  | .local _ .vmem, ⟨5, _⟩ => ⟨S16x512x64, .i8⟩
  | .local _ .vmem, ⟨6, _⟩ => ⟨S16x512x64, .i8⟩
  | .local _ .vmem, ⟨7, _⟩ => ⟨S16x512x64, .i8⟩
  | .local _ .vmem, ⟨8, _⟩ => ⟨S16x512x64, .i8⟩
  | .local _ .vmem, ⟨9, _⟩ => ⟨S16x512x1, .f32⟩
  | _, _ => ⟨S2x512x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 1 68 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_dev2 (d0 : Dev nD) : Nat :=
  let c0_i32_23 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_22 : BitVec 32 := 16#32
  let v35 : BitVec 32 := Scalar.muli v9 c16_i32_22
  let v36 : BitVec 32 := Scalar.addi c0_i32_23 v35
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_24 : BitVec 32 := 4#32
  let v37 : BitVec 32 := Scalar.muli v5 c4_i32_24
  let v38 : BitVec 32 := Scalar.addi v36 v37
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_25 : BitVec 32 := 1#32
  let v39 : BitVec 32 := Scalar.muli v8 c1_i32_25
  let v40 : BitVec 32 := Scalar.addi v38 v39
  v40.toNat
def k0_dev3 (d0 : Dev nD) : Nat :=
  let c0_i32_35 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_34 : BitVec 32 := 16#32
  let v47 : BitVec 32 := Scalar.muli v9 c16_i32_34
  let v48 : BitVec 32 := Scalar.addi c0_i32_35 v47
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_36 : BitVec 32 := 4#32
  let v49 : BitVec 32 := Scalar.muli v5 c4_i32_36
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v51 : BitVec 32 := Scalar.muli v8 c1_i32_37
  let v52 : BitVec 32 := Scalar.addi v50 v51
  v52.toNat
def k0_dev4 (d0 : Dev nD) : Nat :=
  let c0_i32_60 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_59 : BitVec 32 := 16#32
  let v77 : BitVec 32 := Scalar.muli v9 c16_i32_59
  let v78 : BitVec 32 := Scalar.addi c0_i32_60 v77
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_61 : BitVec 32 := 4#32
  let v79 : BitVec 32 := Scalar.muli v5 c4_i32_61
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v81 : BitVec 32 := Scalar.muli v8 c1_i32_62
  let v82 : BitVec 32 := Scalar.addi v80 v81
  v82.toNat
def k0_dev5 (d0 : Dev nD) : Nat :=
  let c0_i32_72 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_71 : BitVec 32 := 16#32
  let v89 : BitVec 32 := Scalar.muli v9 c16_i32_71
  let v90 : BitVec 32 := Scalar.addi c0_i32_72 v89
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_73 : BitVec 32 := 4#32
  let v91 : BitVec 32 := Scalar.muli v5 c4_i32_73
  let v92 : BitVec 32 := Scalar.addi v90 v91
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v93 : BitVec 32 := Scalar.muli v8 c1_i32_74
  let v94 : BitVec 32 := Scalar.addi v92 v93
  v94.toNat
def k0_dev6 (d0 : Dev nD) : Nat :=
  let c0_i32_97 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_96 : BitVec 32 := 16#32
  let v119 : BitVec 32 := Scalar.muli v9 c16_i32_96
  let v120 : BitVec 32 := Scalar.addi c0_i32_97 v119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_98 : BitVec 32 := 4#32
  let v121 : BitVec 32 := Scalar.muli v5 c4_i32_98
  let v122 : BitVec 32 := Scalar.addi v120 v121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_99 : BitVec 32 := 1#32
  let v123 : BitVec 32 := Scalar.muli v8 c1_i32_99
  let v124 : BitVec 32 := Scalar.addi v122 v123
  v124.toNat
def k0_dev7 (d0 : Dev nD) : Nat :=
  let c0_i32_109 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_108 : BitVec 32 := 16#32
  let v131 : BitVec 32 := Scalar.muli v9 c16_i32_108
  let v132 : BitVec 32 := Scalar.addi c0_i32_109 v131
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_110 : BitVec 32 := 4#32
  let v133 : BitVec 32 := Scalar.muli v5 c4_i32_110
  let v134 : BitVec 32 := Scalar.addi v132 v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_111 : BitVec 32 := 1#32
  let v135 : BitVec 32 := Scalar.muli v8 c1_i32_111
  let v136 : BitVec 32 := Scalar.addi v134 v135
  v136.toNat
def k0_dev8 (d0 : Dev nD) : Nat :=
  let c0_i32_133 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_132 : BitVec 32 := 16#32
  let v161 : BitVec 32 := Scalar.muli v9 c16_i32_132
  let v162 : BitVec 32 := Scalar.addi c0_i32_133 v161
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_134 : BitVec 32 := 4#32
  let v163 : BitVec 32 := Scalar.muli v5 c4_i32_134
  let v164 : BitVec 32 := Scalar.addi v162 v163
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_135 : BitVec 32 := 1#32
  let v165 : BitVec 32 := Scalar.muli v8 c1_i32_135
  let v166 : BitVec 32 := Scalar.addi v164 v165
  v166.toNat
def k0_dev9 (d0 : Dev nD) : Nat :=
  let c0_i32_145 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_144 : BitVec 32 := 16#32
  let v173 : BitVec 32 := Scalar.muli v9 c16_i32_144
  let v174 : BitVec 32 := Scalar.addi c0_i32_145 v173
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_146 : BitVec 32 := 4#32
  let v175 : BitVec 32 := Scalar.muli v5 c4_i32_146
  let v176 : BitVec 32 := Scalar.addi v174 v175
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_147 : BitVec 32 := 1#32
  let v177 : BitVec 32 := Scalar.muli v8 c1_i32_147
  let v178 : BitVec 32 := Scalar.addi v176 v177
  v178.toNat
def k0_dev10 (d0 : Dev nD) : Nat :=
  let c0_i32_170 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_169 : BitVec 32 := 16#32
  let v203 : BitVec 32 := Scalar.muli v9 c16_i32_169
  let v204 : BitVec 32 := Scalar.addi c0_i32_170 v203
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_171 : BitVec 32 := 4#32
  let v205 : BitVec 32 := Scalar.muli v5 c4_i32_171
  let v206 : BitVec 32 := Scalar.addi v204 v205
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_172 : BitVec 32 := 1#32
  let v207 : BitVec 32 := Scalar.muli v8 c1_i32_172
  let v208 : BitVec 32 := Scalar.addi v206 v207
  v208.toNat
def k0_dev11 (d0 : Dev nD) : Nat :=
  let c0_i32_182 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_181 : BitVec 32 := 16#32
  let v215 : BitVec 32 := Scalar.muli v9 c16_i32_181
  let v216 : BitVec 32 := Scalar.addi c0_i32_182 v215
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_183 : BitVec 32 := 4#32
  let v217 : BitVec 32 := Scalar.muli v5 c4_i32_183
  let v218 : BitVec 32 := Scalar.addi v216 v217
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_184 : BitVec 32 := 1#32
  let v219 : BitVec 32 := Scalar.muli v8 c1_i32_184
  let v220 : BitVec 32 := Scalar.addi v218 v219
  v220.toNat
def k0_dev12 (d0 : Dev nD) : Nat :=
  let c0_i32_206 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_205 : BitVec 32 := 16#32
  let v245 : BitVec 32 := Scalar.muli v9 c16_i32_205
  let v246 : BitVec 32 := Scalar.addi c0_i32_206 v245
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_207 : BitVec 32 := 4#32
  let v247 : BitVec 32 := Scalar.muli v5 c4_i32_207
  let v248 : BitVec 32 := Scalar.addi v246 v247
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_208 : BitVec 32 := 1#32
  let v249 : BitVec 32 := Scalar.muli v8 c1_i32_208
  let v250 : BitVec 32 := Scalar.addi v248 v249
  v250.toNat
def k0_dev13 (d0 : Dev nD) : Nat :=
  let c0_i32_218 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_217 : BitVec 32 := 16#32
  let v257 : BitVec 32 := Scalar.muli v9 c16_i32_217
  let v258 : BitVec 32 := Scalar.addi c0_i32_218 v257
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_219 : BitVec 32 := 4#32
  let v259 : BitVec 32 := Scalar.muli v5 c4_i32_219
  let v260 : BitVec 32 := Scalar.addi v258 v259
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_220 : BitVec 32 := 1#32
  let v261 : BitVec 32 := Scalar.muli v8 c1_i32_220
  let v262 : BitVec 32 := Scalar.addi v260 v261
  v262.toNat
def k0_dev14 (d0 : Dev nD) : Nat :=
  let c0_i32_242 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_241 : BitVec 32 := 16#32
  let v287 : BitVec 32 := Scalar.muli v9 c16_i32_241
  let v288 : BitVec 32 := Scalar.addi c0_i32_242 v287
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_243 : BitVec 32 := 4#32
  let v289 : BitVec 32 := Scalar.muli v5 c4_i32_243
  let v290 : BitVec 32 := Scalar.addi v288 v289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_244 : BitVec 32 := 1#32
  let v291 : BitVec 32 := Scalar.muli v8 c1_i32_244
  let v292 : BitVec 32 := Scalar.addi v290 v291
  v292.toNat
def k0_dev15 (d0 : Dev nD) : Nat :=
  let c0_i32_254 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_253 : BitVec 32 := 16#32
  let v299 : BitVec 32 := Scalar.muli v9 c16_i32_253
  let v300 : BitVec 32 := Scalar.addi c0_i32_254 v299
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_255 : BitVec 32 := 4#32
  let v301 : BitVec 32 := Scalar.muli v5 c4_i32_255
  let v302 : BitVec 32 := Scalar.addi v300 v301
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_256 : BitVec 32 := 1#32
  let v303 : BitVec 32 := Scalar.muli v8 c1_i32_256
  let v304 : BitVec 32 := Scalar.addi v302 v303
  v304.toNat
def k0_dev16 (d0 : Dev nD) : Nat :=
  let c0_i32_278 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_277 : BitVec 32 := 16#32
  let v329 : BitVec 32 := Scalar.muli v9 c16_i32_277
  let v330 : BitVec 32 := Scalar.addi c0_i32_278 v329
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_279 : BitVec 32 := 4#32
  let v331 : BitVec 32 := Scalar.muli v5 c4_i32_279
  let v332 : BitVec 32 := Scalar.addi v330 v331
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_280 : BitVec 32 := 1#32
  let v333 : BitVec 32 := Scalar.muli v8 c1_i32_280
  let v334 : BitVec 32 := Scalar.addi v332 v333
  v334.toNat
def k0_dev17 (d0 : Dev nD) : Nat :=
  let c0_i32_290 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_289 : BitVec 32 := 16#32
  let v341 : BitVec 32 := Scalar.muli v9 c16_i32_289
  let v342 : BitVec 32 := Scalar.addi c0_i32_290 v341
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_291 : BitVec 32 := 4#32
  let v343 : BitVec 32 := Scalar.muli v5 c4_i32_291
  let v344 : BitVec 32 := Scalar.addi v342 v343
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_292 : BitVec 32 := 1#32
  let v345 : BitVec 32 := Scalar.muli v8 c1_i32_292
  let v346 : BitVec 32 := Scalar.addi v344 v345
  v346.toNat
def k0_dev18 (d0 : Dev nD) : Nat :=
  let c0_i32_314 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_313 : BitVec 32 := 16#32
  let v371 : BitVec 32 := Scalar.muli v9 c16_i32_313
  let v372 : BitVec 32 := Scalar.addi c0_i32_314 v371
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_315 : BitVec 32 := 4#32
  let v373 : BitVec 32 := Scalar.muli v5 c4_i32_315
  let v374 : BitVec 32 := Scalar.addi v372 v373
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_316 : BitVec 32 := 1#32
  let v375 : BitVec 32 := Scalar.muli v8 c1_i32_316
  let v376 : BitVec 32 := Scalar.addi v374 v375
  v376.toNat
def k0_dev19 (d0 : Dev nD) : Nat :=
  let c0_i32_326 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_325 : BitVec 32 := 16#32
  let v383 : BitVec 32 := Scalar.muli v9 c16_i32_325
  let v384 : BitVec 32 := Scalar.addi c0_i32_326 v383
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_327 : BitVec 32 := 4#32
  let v385 : BitVec 32 := Scalar.muli v5 c4_i32_327
  let v386 : BitVec 32 := Scalar.addi v384 v385
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_328 : BitVec 32 := 1#32
  let v387 : BitVec 32 := Scalar.muli v8 c1_i32_328
  let v388 : BitVec 32 := Scalar.addi v386 v387
  v388.toNat
def k0_dev20 (d0 : Dev nD) : Nat :=
  let c0_i32_350 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_349 : BitVec 32 := 16#32
  let v413 : BitVec 32 := Scalar.muli v9 c16_i32_349
  let v414 : BitVec 32 := Scalar.addi c0_i32_350 v413
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_351 : BitVec 32 := 4#32
  let v415 : BitVec 32 := Scalar.muli v5 c4_i32_351
  let v416 : BitVec 32 := Scalar.addi v414 v415
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_352 : BitVec 32 := 1#32
  let v417 : BitVec 32 := Scalar.muli v8 c1_i32_352
  let v418 : BitVec 32 := Scalar.addi v416 v417
  v418.toNat
def k0_dev21 (d0 : Dev nD) : Nat :=
  let c0_i32_362 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_361 : BitVec 32 := 16#32
  let v425 : BitVec 32 := Scalar.muli v9 c16_i32_361
  let v426 : BitVec 32 := Scalar.addi c0_i32_362 v425
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_363 : BitVec 32 := 4#32
  let v427 : BitVec 32 := Scalar.muli v5 c4_i32_363
  let v428 : BitVec 32 := Scalar.addi v426 v427
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_364 : BitVec 32 := 1#32
  let v429 : BitVec 32 := Scalar.muli v8 c1_i32_364
  let v430 : BitVec 32 := Scalar.addi v428 v429
  v430.toNat
def k0_dev22 (d0 : Dev nD) : Nat :=
  let c0_i32_386 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_385 : BitVec 32 := 16#32
  let v455 : BitVec 32 := Scalar.muli v9 c16_i32_385
  let v456 : BitVec 32 := Scalar.addi c0_i32_386 v455
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_387 : BitVec 32 := 4#32
  let v457 : BitVec 32 := Scalar.muli v5 c4_i32_387
  let v458 : BitVec 32 := Scalar.addi v456 v457
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_388 : BitVec 32 := 1#32
  let v459 : BitVec 32 := Scalar.muli v8 c1_i32_388
  let v460 : BitVec 32 := Scalar.addi v458 v459
  v460.toNat
def k0_dev23 (d0 : Dev nD) : Nat :=
  let c0_i32_398 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_397 : BitVec 32 := 16#32
  let v467 : BitVec 32 := Scalar.muli v9 c16_i32_397
  let v468 : BitVec 32 := Scalar.addi c0_i32_398 v467
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_399 : BitVec 32 := 4#32
  let v469 : BitVec 32 := Scalar.muli v5 c4_i32_399
  let v470 : BitVec 32 := Scalar.addi v468 v469
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_400 : BitVec 32 := 1#32
  let v471 : BitVec 32 := Scalar.muli v8 c1_i32_400
  let v472 : BitVec 32 := Scalar.addi v470 v471
  v472.toNat
def k0_dev24 (d0 : Dev nD) : Nat :=
  let c0_i32_422 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_421 : BitVec 32 := 16#32
  let v497 : BitVec 32 := Scalar.muli v9 c16_i32_421
  let v498 : BitVec 32 := Scalar.addi c0_i32_422 v497
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_423 : BitVec 32 := 4#32
  let v499 : BitVec 32 := Scalar.muli v5 c4_i32_423
  let v500 : BitVec 32 := Scalar.addi v498 v499
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_424 : BitVec 32 := 1#32
  let v501 : BitVec 32 := Scalar.muli v8 c1_i32_424
  let v502 : BitVec 32 := Scalar.addi v500 v501
  v502.toNat
def k0_dev25 (d0 : Dev nD) : Nat :=
  let c0_i32_434 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_433 : BitVec 32 := 16#32
  let v509 : BitVec 32 := Scalar.muli v9 c16_i32_433
  let v510 : BitVec 32 := Scalar.addi c0_i32_434 v509
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_435 : BitVec 32 := 4#32
  let v511 : BitVec 32 := Scalar.muli v5 c4_i32_435
  let v512 : BitVec 32 := Scalar.addi v510 v511
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_436 : BitVec 32 := 1#32
  let v513 : BitVec 32 := Scalar.muli v8 c1_i32_436
  let v514 : BitVec 32 := Scalar.addi v512 v513
  v514.toNat
def k0_dev26 (d0 : Dev nD) : Nat :=
  let c0_i32_458 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_457 : BitVec 32 := 16#32
  let v539 : BitVec 32 := Scalar.muli v9 c16_i32_457
  let v540 : BitVec 32 := Scalar.addi c0_i32_458 v539
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_459 : BitVec 32 := 4#32
  let v541 : BitVec 32 := Scalar.muli v5 c4_i32_459
  let v542 : BitVec 32 := Scalar.addi v540 v541
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_460 : BitVec 32 := 1#32
  let v543 : BitVec 32 := Scalar.muli v8 c1_i32_460
  let v544 : BitVec 32 := Scalar.addi v542 v543
  v544.toNat
def k0_dev27 (d0 : Dev nD) : Nat :=
  let c0_i32_470 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_469 : BitVec 32 := 16#32
  let v551 : BitVec 32 := Scalar.muli v9 c16_i32_469
  let v552 : BitVec 32 := Scalar.addi c0_i32_470 v551
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v553 : BitVec 32 := Scalar.muli v5 c4_i32_471
  let v554 : BitVec 32 := Scalar.addi v552 v553
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_472 : BitVec 32 := 1#32
  let v555 : BitVec 32 := Scalar.muli v8 c1_i32_472
  let v556 : BitVec 32 := Scalar.addi v554 v555
  v556.toNat
def k0_dev28 (d0 : Dev nD) : Nat :=
  let c0_i32_494 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_493 : BitVec 32 := 16#32
  let v581 : BitVec 32 := Scalar.muli v9 c16_i32_493
  let v582 : BitVec 32 := Scalar.addi c0_i32_494 v581
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_495 : BitVec 32 := 4#32
  let v583 : BitVec 32 := Scalar.muli v5 c4_i32_495
  let v584 : BitVec 32 := Scalar.addi v582 v583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_496 : BitVec 32 := 1#32
  let v585 : BitVec 32 := Scalar.muli v8 c1_i32_496
  let v586 : BitVec 32 := Scalar.addi v584 v585
  v586.toNat
def k0_dev29 (d0 : Dev nD) : Nat :=
  let c0_i32_506 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_505 : BitVec 32 := 16#32
  let v593 : BitVec 32 := Scalar.muli v9 c16_i32_505
  let v594 : BitVec 32 := Scalar.addi c0_i32_506 v593
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_507 : BitVec 32 := 4#32
  let v595 : BitVec 32 := Scalar.muli v5 c4_i32_507
  let v596 : BitVec 32 := Scalar.addi v594 v595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_508 : BitVec 32 := 1#32
  let v597 : BitVec 32 := Scalar.muli v8 c1_i32_508
  let v598 : BitVec 32 := Scalar.addi v596 v597
  v598.toNat
def k0_dev30 (d0 : Dev nD) : Nat :=
  let c0_i32_530 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_529 : BitVec 32 := 16#32
  let v623 : BitVec 32 := Scalar.muli v9 c16_i32_529
  let v624 : BitVec 32 := Scalar.addi c0_i32_530 v623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_531 : BitVec 32 := 4#32
  let v625 : BitVec 32 := Scalar.muli v5 c4_i32_531
  let v626 : BitVec 32 := Scalar.addi v624 v625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_532 : BitVec 32 := 1#32
  let v627 : BitVec 32 := Scalar.muli v8 c1_i32_532
  let v628 : BitVec 32 := Scalar.addi v626 v627
  v628.toNat
def k0_dev31 (d0 : Dev nD) : Nat :=
  let c0_i32_542 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_541 : BitVec 32 := 16#32
  let v635 : BitVec 32 := Scalar.muli v9 c16_i32_541
  let v636 : BitVec 32 := Scalar.addi c0_i32_542 v635
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_543 : BitVec 32 := 4#32
  let v637 : BitVec 32 := Scalar.muli v5 c4_i32_543
  let v638 : BitVec 32 := Scalar.addi v636 v637
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_544 : BitVec 32 := 1#32
  let v639 : BitVec 32 := Scalar.muli v8 c1_i32_544
  let v640 : BitVec 32 := Scalar.addi v638 v639
  v640.toNat
def k0_dev32 (d0 : Dev nD) : Nat :=
  let c0_i32_566 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_565 : BitVec 32 := 16#32
  let v665 : BitVec 32 := Scalar.muli v9 c16_i32_565
  let v666 : BitVec 32 := Scalar.addi c0_i32_566 v665
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_567 : BitVec 32 := 4#32
  let v667 : BitVec 32 := Scalar.muli v5 c4_i32_567
  let v668 : BitVec 32 := Scalar.addi v666 v667
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_568 : BitVec 32 := 1#32
  let v669 : BitVec 32 := Scalar.muli v8 c1_i32_568
  let v670 : BitVec 32 := Scalar.addi v668 v669
  v670.toNat
def k0_dev33 (d0 : Dev nD) : Nat :=
  let c0_i32_578 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_577 : BitVec 32 := 16#32
  let v677 : BitVec 32 := Scalar.muli v9 c16_i32_577
  let v678 : BitVec 32 := Scalar.addi c0_i32_578 v677
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_579 : BitVec 32 := 4#32
  let v679 : BitVec 32 := Scalar.muli v5 c4_i32_579
  let v680 : BitVec 32 := Scalar.addi v678 v679
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_580 : BitVec 32 := 1#32
  let v681 : BitVec 32 := Scalar.muli v8 c1_i32_580
  let v682 : BitVec 32 := Scalar.addi v680 v681
  v682.toNat
abbrev stage0_0 : Fin 1 → Memref sig .tc .vmem S16x512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x1024x8x64 : Shape := ⟨4, ![2, 1024, 8, 64]⟩
abbrev S2x8x1024x1024 : Shape := ⟨4, ![2, 8, 1024, 1024]⟩
abbrev S_ : Shape := ⟨0, ![]⟩
abbrev S2x8x1024 : Shape := ⟨3, ![2, 8, 1024]⟩
abbrev S2x8x1024x1 : Shape := ⟨4, ![2, 8, 1024, 1]⟩
abbrev S2x8x64x1024 : Shape := ⟨4, ![2, 8, 64, 1024]⟩

abbrev nBuf : Space → Nat
  | .hbm => 20
  | .vmem => 0
  | .smem => 0
  | _ => 0

abbrev bufTy : (tb : Table) → Fin (tcTables nBuf tb) → BufTy
  | .hbm, ⟨0, _⟩ => ⟨S2x1024x8x64, .f32⟩
  | .hbm, ⟨1, _⟩ => ⟨S2x1024x8x64, .f32⟩
  | .hbm, ⟨2, _⟩ => ⟨S2x1024x8x64, .f32⟩
  | .hbm, ⟨3, _⟩ => ⟨S2x8x1024x1024, .f32⟩
  | .hbm, ⟨4, _⟩ => ⟨S_, .f32⟩
  | .hbm, ⟨5, _⟩ => ⟨S2x8x1024x1024, .f32⟩
  | .hbm, ⟨6, _⟩ => ⟨S2x8x1024x1024, .f32⟩
  | .hbm, ⟨7, _⟩ => ⟨S_, .f32⟩
  | .hbm, ⟨8, _⟩ => ⟨S2x8x1024, .f32⟩
  | .hbm, ⟨9, _⟩ => ⟨S2x8x1024x1, .f32⟩
  | .hbm, ⟨10, _⟩ => ⟨S2x8x1024x1024, .f32⟩
  | .hbm, ⟨11, _⟩ => ⟨S2x8x1024x1024, .f32⟩
  | .hbm, ⟨12, _⟩ => ⟨S2x8x1024x1024, .f32⟩
  | .hbm, ⟨13, _⟩ => ⟨S_, .f32⟩
  | .hbm, ⟨14, _⟩ => ⟨S2x8x1024, .f32⟩
  | .hbm, ⟨15, _⟩ => ⟨S2x8x1024x1, .f32⟩
  | .hbm, ⟨16, _⟩ => ⟨S2x8x1024x1024, .f32⟩
  | .hbm, ⟨17, _⟩ => ⟨S2x8x1024x1024, .f32⟩
  | .hbm, ⟨18, _⟩ => ⟨S2x8x64x1024, .f32⟩
  | .hbm, ⟨19, _⟩ => ⟨S2x1024x8x64, .f32⟩
  | _, _ => ⟨S2x1024x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== WireReferenceIdeal.lean ====
abbrev S2x1024x8x64 : Shape := ⟨4, ![2, 1024, 8, 64]⟩
abbrev S_ : Shape := ⟨0, ![]⟩
abbrev S2x512x8x64 : Shape := ⟨4, ![2, 512, 8, 64]⟩
abbrev S2x8x1024x1024 : Shape := ⟨4, ![2, 8, 1024, 1024]⟩
abbrev S2x8x1024 : Shape := ⟨3, ![2, 8, 1024]⟩
abbrev S2x8x1024x1 : Shape := ⟨4, ![2, 8, 1024, 1]⟩
abbrev S2x8x64x1024 : Shape := ⟨4, ![2, 8, 64, 1024]⟩

abbrev nBuf : Space → Nat
  | .hbm => 104
  | .vmem => 0
  | .smem => 0
  | _ => 0

abbrev bufTy : (tb : Table) → Fin (tcTables nBuf tb) → BufTy
  | .hbm, ⟨0, _⟩ => ⟨S2x1024x8x64, .f32⟩
  | .hbm, ⟨1, _⟩ => ⟨S2x1024x8x64, .f32⟩
  | .hbm, ⟨2, _⟩ => ⟨S2x1024x8x64, .f32⟩
  | .hbm, ⟨3, _⟩ => ⟨S_, .f32⟩
  | .hbm, ⟨4, _⟩ => ⟨S2x1024x8x64, .f32⟩
  | .hbm, ⟨5, _⟩ => ⟨S2x1024x8x64, .f32⟩
  | .hbm, ⟨6, _⟩ => ⟨S2x1024x8x64, .f32⟩
  | .hbm, ⟨7, _⟩ => ⟨S_, .f32⟩
  | .hbm, ⟨8, _⟩ => ⟨S2x1024x8x64, .f32⟩
  | .hbm, ⟨9, _⟩ => ⟨S2x1024x8x64, .f32⟩
  | .hbm, ⟨10, _⟩ => ⟨S_, .f32⟩
  | .hbm, ⟨11, _⟩ => ⟨S2x1024x8x64, .f32⟩
  | .hbm, ⟨12, _⟩ => ⟨S2x1024x8x64, .f32⟩
  | .hbm, ⟨13, _⟩ => ⟨S_, .f32⟩
  | .hbm, ⟨14, _⟩ => ⟨S2x1024x8x64, .f32⟩
  | .hbm, ⟨15, _⟩ => ⟨S2x1024x8x64, .f32⟩
  | .hbm, ⟨16, _⟩ => ⟨S2x512x8x64, .f32⟩
  | .hbm, ⟨17, _⟩ => ⟨S2x512x8x64, .f32⟩
  | .hbm, ⟨18, _⟩ => ⟨S2x1024x8x64, .f32⟩
  | .hbm, ⟨19, _⟩ => ⟨S_, .f32⟩
  | .hbm, ⟨20, _⟩ => ⟨S2x1024x8x64, .f32⟩
  | .hbm, ⟨21, _⟩ => ⟨S2x1024x8x64, .f32⟩
  | .hbm, ⟨22, _⟩ => ⟨S2x1024x8x64, .f32⟩
  | .hbm, ⟨23, _⟩ => ⟨S_, .f32⟩
  | .hbm, ⟨24, _⟩ => ⟨S2x1024x8x64, .f32⟩
  | .hbm, ⟨25, _⟩ => ⟨S2x1024x8x64, .f32⟩
  | .hbm, ⟨26, _⟩ => ⟨S_, .f32⟩
  | .hbm, ⟨27, _⟩ => ⟨S2x1024x8x64, .f32⟩
  | .hbm, ⟨28, _⟩ => ⟨S2x1024x8x64, .f32⟩
  | .hbm, ⟨29, _⟩ => ⟨S_, .f32⟩
  | .hbm, ⟨30, _⟩ => ⟨S2x1024x8x64, .f32⟩
  | .hbm, ⟨31, _⟩ => ⟨S2x1024x8x64, .f32⟩
  | .hbm, ⟨32, _⟩ => ⟨S2x512x8x64, .f32⟩
  | .hbm, ⟨33, _⟩ => ⟨S2x512x8x64, .f32⟩
  | .hbm, ⟨34, _⟩ => ⟨S2x1024x8x64, .f32⟩
  | .hbm, ⟨35, _⟩ => ⟨S2x8x1024x1024, .f32⟩
  | .hbm, ⟨36, _⟩ => ⟨S_, .f32⟩
  | .hbm, ⟨37, _⟩ => ⟨S2x8x1024x1024, .f32⟩
  | .hbm, ⟨38, _⟩ => ⟨S2x8x1024x1024, .f32⟩
  | .hbm, ⟨39, _⟩ => ⟨S_, .f32⟩
  | .hbm, ⟨40, _⟩ => ⟨S2x8x1024, .f32⟩
  | .hbm, ⟨41, _⟩ => ⟨S2x8x1024x1, .f32⟩
  | .hbm, ⟨42, _⟩ => ⟨S2x8x1024x1024, .f32⟩
  | .hbm, ⟨43, _⟩ => ⟨S2x8x1024x1024, .f32⟩
  | .hbm, ⟨44, _⟩ => ⟨S2x8x1024x1024, .f32⟩
  | .hbm, ⟨45, _⟩ => ⟨S_, .f32⟩
  | .hbm, ⟨46, _⟩ => ⟨S2x8x1024, .f32⟩
  | .hbm, ⟨47, _⟩ => ⟨S2x8x1024x1, .f32⟩
  | .hbm, ⟨48, _⟩ => ⟨S2x8x1024x1024, .f32⟩
  | .hbm, ⟨49, _⟩ => ⟨S2x8x1024x1024, .f32⟩
  | .hbm, ⟨50, _⟩ => ⟨S2x8x64x1024, .f32⟩
  | .hbm, ⟨51, _⟩ => ⟨S2x1024x8x64, .f32⟩
  | .hbm, ⟨52, _⟩ => ⟨S_, .f32⟩
  | .hbm, ⟨53, _⟩ => ⟨S2x1024x8x64, .f32⟩
  | .hbm, ⟨54, _⟩ => ⟨S2x1024x8x64, .f32⟩
  | .hbm, ⟨55, _⟩ => ⟨S2x1024x8x64, .f32⟩
  | .hbm, ⟨56, _⟩ => ⟨S_, .f32⟩
  | .hbm, ⟨57, _⟩ => ⟨S2x1024x8x64, .f32⟩
  | .hbm, ⟨58, _⟩ => ⟨S2x1024x8x64, .f32⟩
  | .hbm, ⟨59, _⟩ => ⟨S_, .f32⟩
  | .hbm, ⟨60, _⟩ => ⟨S2x1024x8x64, .f32⟩
  | .hbm, ⟨61, _⟩ => ⟨S2x1024x8x64, .f32⟩
  | .hbm, ⟨62, _⟩ => ⟨S_, .f32⟩
  | .hbm, ⟨63, _⟩ => ⟨S2x1024x8x64, .f32⟩
  | .hbm, ⟨64, _⟩ => ⟨S2x1024x8x64, .f32⟩
  | .hbm, ⟨65, _⟩ => ⟨S2x512x8x64, .f32⟩
  | .hbm, ⟨66, _⟩ => ⟨S2x512x8x64, .f32⟩
  | .hbm, ⟨67, _⟩ => ⟨S2x1024x8x64, .f32⟩
  | .hbm, ⟨68, _⟩ => ⟨S_, .f32⟩
  | .hbm, ⟨69, _⟩ => ⟨S2x1024x8x64, .f32⟩
  | .hbm, ⟨70, _⟩ => ⟨S2x1024x8x64, .f32⟩
  | .hbm, ⟨71, _⟩ => ⟨S2x1024x8x64, .f32⟩
  | .hbm, ⟨72, _⟩ => ⟨S_, .f32⟩
  | .hbm, ⟨73, _⟩ => ⟨S2x1024x8x64, .f32⟩
  | .hbm, ⟨74, _⟩ => ⟨S2x1024x8x64, .f32⟩
  | .hbm, ⟨75, _⟩ => ⟨S_, .f32⟩
  | .hbm, ⟨76, _⟩ => ⟨S2x1024x8x64, .f32⟩
  | .hbm, ⟨77, _⟩ => ⟨S2x1024x8x64, .f32⟩
  | .hbm, ⟨78, _⟩ => ⟨S_, .f32⟩
  | .hbm, ⟨79, _⟩ => ⟨S2x1024x8x64, .f32⟩
  | .hbm, ⟨80, _⟩ => ⟨S2x1024x8x64, .f32⟩
  | .hbm, ⟨81, _⟩ => ⟨S2x512x8x64, .f32⟩
  | .hbm, ⟨82, _⟩ => ⟨S2x512x8x64, .f32⟩
  | .hbm, ⟨83, _⟩ => ⟨S2x1024x8x64, .f32⟩
  | .hbm, ⟨84, _⟩ => ⟨S2x8x1024x1024, .f32⟩
  | .hbm, ⟨85, _⟩ => ⟨S_, .f32⟩
  | .hbm, ⟨86, _⟩ => ⟨S2x8x1024x1024, .f32⟩
  | .hbm, ⟨87, _⟩ => ⟨S2x8x1024x1024, .f32⟩
  | .hbm, ⟨88, _⟩ => ⟨S_, .f32⟩
  | .hbm, ⟨89, _⟩ => ⟨S2x8x1024, .f32⟩
  | .hbm, ⟨90, _⟩ => ⟨S2x8x1024x1, .f32⟩
  | .hbm, ⟨91, _⟩ => ⟨S2x8x1024x1024, .f32⟩
  | .hbm, ⟨92, _⟩ => ⟨S2x8x1024x1024, .f32⟩
  | .hbm, ⟨93, _⟩ => ⟨S2x8x1024x1024, .f32⟩
  | .hbm, ⟨94, _⟩ => ⟨S_, .f32⟩
  | .hbm, ⟨95, _⟩ => ⟨S2x8x1024, .f32⟩
  | .hbm, ⟨96, _⟩ => ⟨S2x8x1024x1, .f32⟩
  | .hbm, ⟨97, _⟩ => ⟨S2x8x1024x1024, .f32⟩
  | .hbm, ⟨98, _⟩ => ⟨S2x8x1024x1024, .f32⟩
  | .hbm, ⟨99, _⟩ => ⟨S2x8x64x1024, .f32⟩
  | .hbm, ⟨100, _⟩ => ⟨S2x1024x8x64, .f32⟩
  | .hbm, ⟨101, _⟩ => ⟨S2x512x8x64, .f32⟩
  | .hbm, ⟨102, _⟩ => ⟨S2x512x8x64, .f32⟩
  | .hbm, ⟨103, _⟩ => ⟨S2x1024x8x64, .f32⟩
  | _, _ => ⟨S2x1024x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_4 : Ref sig .tc := ⟨.hbm, 23, rfl⟩
abbrev main_v15 : Ref sig .tc := ⟨.hbm, 24, rfl⟩
abbrev main_v16 : Ref sig .tc := ⟨.hbm, 25, rfl⟩
abbrev main_cst_5 : Ref sig .tc := ⟨.hbm, 26, rfl⟩
abbrev main_v17 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_cst_8 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_9 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_cst_12 : Ref sig .tc := ⟨.hbm, 59, rfl⟩
abbrev main_v43 : Ref sig .tc := ⟨.hbm, 60, rfl⟩
abbrev main_v44 : Ref sig .tc := ⟨.hbm, 61, rfl⟩
abbrev main_cst_13 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_14 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_15 : Ref sig .tc := ⟨.hbm, 72, rfl⟩
abbrev main_v53 : Ref sig .tc := ⟨.hbm, 73, rfl⟩
abbrev main_v54 : Ref sig .tc := ⟨.hbm, 74, rfl⟩
abbrev main_cst_16 : Ref sig .tc := ⟨.hbm, 75, rfl⟩
abbrev main_v55 : Ref sig .tc := ⟨.hbm, 76, rfl⟩
abbrev main_v56 : Ref sig .tc := ⟨.hbm, 77, rfl⟩
abbrev main_cst_17 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_18 : Ref sig .tc := ⟨.hbm, 85, rfl⟩
abbrev main_v63 : Ref sig .tc := ⟨.hbm, 86, rfl⟩
abbrev main_v64 : Ref sig .tc := ⟨.hbm, 87, rfl⟩
abbrev main_cst_19 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_20 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩

abbrev nD : Nat := 1
abbrev τ : Topo := Topo.v7x

variable {F : FTy → Type} [FloatOps F]
-- ==== Proof.Attn.Body.lean ====
/- The kernel's body as loops: the printed straight line is sixteen times each of four short stretches
   (quantise and send, the head against its own half, the head against the other half, the wait for the
   departures), and is stated here with the chunk as a variable. -/
module

public import proofs.«01_k».proof.Proof.Gen.KernelIdeal.Skeleton
public import Idealize.ShloMosaic.Lib.Pipeline.Regions

@[expose] public section

noncomputable section

namespace Cert.Attn

open Idealize.ShloMosaic Idealize.SL.Sem
open Cert.KernelIdeal Cert.KernelIdeal.Gen

variable {F : FTy → Type} [FloatOps F]

/-! ## One chunk's windows -/

theorem inbR (i : Fin 16) : ∀ a, (![i.val, 0, 0] : Fin 3 → Nat) a + S1x512x64.size a ≤ S16x512x64.size a := by
  revert i; decide
theorem inbL (i : Fin 16) : ∀ a, (![i.val, 0, 0] : Fin 3 → Nat) a + S1x512x1.size a ≤ S16x512x1.size a := by
  revert i; decide
theorem inbS (i : Fin 16) : ∀ a, (![i.val] : Fin 1 → Nat) a + S1.size a ≤ S16.size a := by
  revert i; decide

/-- Row `i` of the sixteen. -/
abbrev rowR (i : Fin 16) : Rect S16x512x64 := Rect.unit (s := S16x512x64) ![i.val, 0, 0] S1x512x64.size (inbR i)
/-- Row `i` of the denominators. -/
abbrev rowL (i : Fin 16) : Rect S16x512x1 := Rect.unit (s := S16x512x1) ![i.val, 0, 0] S1x512x1.size (inbL i)
/-- All sixteen rows. -/
abbrev allR : Rect S16x512x64 := Rect.unit (s := S16x512x64) ![0, 0, 0] S16x512x64.size inb_S16x512x64_S16x512x64_0_0_0

theorem packedR (i : Fin 16) : (rowR i).PackedRows (EltTy.packing .i8) := by revert i; decide
theorem wordsR (i : Fin 16) : (rowR i).WholeWords (EltTy.packing .i8) := by revert i; decide

/-- The `i`-th counter of sixteen. -/
abbrev semAt (s : DmaSems sig S16) (i : Fin 16) : DmaSem sig :=
  ((s.slice (Rect.unit (s := S16) ![i.val] S1.size (inbS i))).squeeze S_ squeezes_S1_S_).sem
/-- Row `i` of a buffer of bytes. -/
abbrev rowM (m : Memref sig .tc .vmem S16x512x64 .i8) (i : Fin 16) : Memref sig .tc .vmem S1x512x64 .i8 :=
  m.slice (rowR i) (fun _ => rfl)

/-- The device the body exchanges with. -/
abbrev peerOf (d : Dev nD) : Dev nD := ⟨k0_dev1 d, k0_dev1_lt d⟩

/-- The barrier's counter. -/
abbrev barM : Sems sig S_ := SemArray.scalar (sig.barrier 0 rfl)

/-! ## The stretches -/

abbrev KP (F : FTy → Type) := Prog (TpuEff nD τ sig (Elt F) Λ₀ .tc) PUnit

/-- A stretch once for each entry of a list. -/
def each (f : Fin 16 → KP F) : List (Fin 16) → KP F
  | [] => .ret ⟨⟩
  | i :: l => (f i).bind fun _ => each f l

/-- Read row `i` of an array of numbers, write its bytes to the same row of another. -/
def quantRow (src : Memref sig .tc .vmem S16x512x64 .f32) (dst : Memref sig .tc .vmem S16x512x64 .i8) (hdst : dst.IsWhole) (i : Fin 16) : KP F := do
  let x : Vec F S1x512x64 .f32 ← Prog.lift (.load src (rowR i).toLoadRect (View.loadsAt_vmem h_S1x512x64))
  let _ : Vec F S1x512x64 .i8 ← Prog.lift (.load dst (rowR i).toLoadRect (View.loadsAt_vmem h_S1x512x64))
  Prog.lift (.store dst (rowR i) (k0_pay1 x) Finset.univ (View.stores_vmem h_S1x512x64 (hdst.storeExact_slice rfl _ (packedR i)) (fun _ => rfl)) (.inl rfl))

/-- Send row `i` of `src` to the same row of the peer's `dst`. -/
def sendRow (d : Dev nD) (src : Memref sig .tc .vmem S16x512x64 .i8) (hsrc : src.IsWhole) (dst : Memref sig .tc .vmem S16x512x64 .i8) (hdst : dst.IsWhole)
    (ss rs : DmaSems sig S16) (i : Fin 16) : KP F :=
  Prog.lift (.enqueueDma (rowM src i) (.remote (Dev.tc (peerOf d)) (rowM dst i) (.dma (semAt ss i))) (.dma (semAt rs i))
    (hsrc.wordExact_slice rfl _ (wordsR i)) (hdst.wordExact_slice rfl _ (wordsR i)) ⟨⟨rfl, Or.inl rfl⟩, trivial⟩)

/-- Wait on the `i`-th counter of `s` for as much as row `i` of `src` and `dst` is. -/
def waitRow (s : DmaSems sig S16) (src : Memref sig .tc .vmem S16x512x64 .i8) (hsrc : src.IsWhole) (dst : Memref sig .tc .vmem S16x512x64 .i8) (hdst : dst.IsWhole)
    (i : Fin 16) : KP F :=
  Prog.lift (.waitDma2 (semAt s i) (rowM src i) (rowM dst i) (hsrc.wordExact_slice rfl _ (wordsR i)) (hdst.wordExact_slice rfl _ (wordsR i)))

section
variable (arg0 : Memref sig .tc .vmem S16x512x64 .f32) (harg0 : arg0.IsWhole) (arg1 : Memref sig .tc .vmem S16x512x64 .f32) (harg1 : arg1.IsWhole)
  (arg2 : Memref sig .tc .vmem S16x512x64 .f32) (harg2 : arg2.IsWhole) (arg3 : Memref sig .tc .vmem S16x512x64 .f32) (harg3 : arg3.IsWhole)
  (arg4 : Memref sig .tc .vmem S16x512x64 .bf16) (harg4 : arg4.IsWhole) (arg5 : Memref sig .tc .vmem S16x512x64 .i8) (harg5 : arg5.IsWhole)
  (arg6 : Memref sig .tc .vmem S16x512x64 .i8) (harg6 : arg6.IsWhole) (arg7 : Memref sig .tc .vmem S16x512x64 .i8) (harg7 : arg7.IsWhole)
  (arg8 : Memref sig .tc .vmem S16x512x64 .i8) (harg8 : arg8.IsWhole) (arg9 : Memref sig .tc .vmem S16x512x1 .f32) (harg9 : arg9.IsWhole)
  (arg10 arg11 arg12 arg13 : DmaSems sig S16)

/-- Keys and values of row `i` as bytes. -/
def quantP (i : Fin 16) : KP F := do
  quantRow arg1 arg5 harg5 i
  quantRow arg2 arg6 harg6 i

/-- Keys and values of row `i` on their way. -/
def sendP (d : Dev nD) (i : Fin 16) : KP F := do
  sendRow d arg5 harg5 arg7 harg7 arg10 arg11 i
  sendRow d arg6 harg6 arg8 harg8 arg12 arg13 i

/-- The queries in the narrow format. -/
def queryP : KP F := do
  let q : Vec F S16x512x64 .f32 ← Prog.lift (.load arg0 allR.toLoadRect (View.loadsAt_vmem h_S16x512x64))
  let _ : Vec F S16x512x64 .bf16 ← Prog.lift (.load arg4 allR.toLoadRect (View.loadsAt_vmem h_S16x512x64))
  Prog.lift (.store arg4 allR (k0_pay40 q) Finset.univ (View.stores_vmem h_S16x512x64 (harg4.storeExact_slice rfl _ packedbf16_S16x512x64_S16x512x64_0_0_0) (fun _ => rfl)) (.inl rfl))

/-- Row `i` of the queries against the device's own keys and values. -/
def ownP (i : Fin 16) : KP F := do
  let q : Vec F S1x512x64 .f32 ← Prog.lift (.load arg0 (rowR i).toLoadRect (View.loadsAt_vmem h_S1x512x64))
  let k : Vec F S1x512x64 .f32 ← Prog.lift (.load arg1 (rowR i).toLoadRect (View.loadsAt_vmem h_S1x512x64))
  let _ : Vec F S1x512x1 .f32 ← Prog.lift (.load arg9 (rowL i).toLoadRect (View.loadsAt_vmem h_S1x512x1))
  Prog.lift (.store arg9 (rowL i) (k0_pay42 q k) Finset.univ (View.stores_vmem_bits_univ h_S1x512x1 rfl) (.inl rfl))
  let v : Vec F S1x512x64 .f32 ← Prog.lift (.load arg2 (rowR i).toLoadRect (View.loadsAt_vmem h_S1x512x64))
  let _ : Vec F S1x512x64 .f32 ← Prog.lift (.load arg3 (rowR i).toLoadRect (View.loadsAt_vmem h_S1x512x64))
  Prog.lift (.store arg3 (rowR i) (k0_pay43 q k v) Finset.univ (View.stores_vmem_bits_univ h_S1x512x64 rfl) (.inl rfl))

/-- Row `i` of the queries against the other device's keys and values, and the two halves put together. -/
def otherP (i : Fin 16) : KP F := do
  waitRow arg11 arg5 harg5 arg7 harg7 i
  waitRow arg13 arg6 harg6 arg8 harg8 i
  let q : Vec F S1x512x64 .bf16 ← Prog.lift (.load arg4 (rowR i).toLoadRect (View.loadsAt_vmem h_S1x512x64))
  let k : Vec F S1x512x64 .i8 ← Prog.lift (.load arg7 (rowR i).toLoadRect (View.loadsAt_vmem h_S1x512x64))
  let v : Vec F S1x512x64 .i8 ← Prog.lift (.load arg8 (rowR i).toLoadRect (View.loadsAt_vmem h_S1x512x64))
  let o : Vec F S1x512x64 .f32 ← Prog.lift (.load arg3 (rowR i).toLoadRect (View.loadsAt_vmem h_S1x512x64))
  let l : Vec F S1x512x1 .f32 ← Prog.lift (.load arg9 (rowL i).toLoadRect (View.loadsAt_vmem h_S1x512x1))
  let _ : Vec F S1x512x64 .f32 ← Prog.lift (.load arg3 (rowR i).toLoadRect (View.loadsAt_vmem h_S1x512x64))
  Prog.lift (.store arg3 (rowR i) (k0_pay126 q k v o l) Finset.univ (View.stores_vmem_bits_univ h_S1x512x64 rfl) (.inl rfl))

/-- Row `i` has left: its source is free again. -/
def leftP (i : Fin 16) : KP F := do
  waitRow arg10 arg7 harg7 arg5 harg5 i
  waitRow arg12 arg8 harg8 arg6 harg6 i

/-- The rows but the first, and all of them. -/
abbrev rest : List (Fin 16) := [1, 2, 3, 4, 5, 6, 7, 8, 9, 10, 11, 12, 13, 14, 15]
abbrev rows : List (Fin 16) := 0 :: rest

/-- The body as loops. -/
def bodyP : KP F := do
  let d : Dev nD ← Prog.lift .deviceId
  semSignalWord (peerOf d) barM.sem 1#32
  quantP arg1 arg2 arg5 harg5 arg6 harg6 0
  semWaitWord barM.sem 1#32
  sendP arg5 harg5 arg6 harg6 arg7 harg7 arg8 harg8 arg10 arg11 arg12 arg13 d 0
  each (fun i => (quantP arg1 arg2 arg5 harg5 arg6 harg6 i).bind fun _ => sendP arg5 harg5 arg6 harg6 arg7 harg7 arg8 harg8 arg10 arg11 arg12 arg13 d i) rest
  queryP arg0 arg4 harg4
  each (ownP arg0 arg1 arg2 arg3 arg9) rows
  each (otherP arg3 arg4 arg5 harg5 arg6 harg6 arg7 harg7 arg8 harg8 arg9 arg11 arg13) rows
  each (leftP arg5 harg5 arg6 harg6 arg7 harg7 arg8 harg8 arg10 arg12) rows

set_option maxRecDepth 100000 in
/-- The printed body is these loops, by unfolding. -/
theorem body_eq : cc0__body (F := F) arg0 harg0 arg1 harg1 arg2 harg2 arg3 harg3 arg4 harg4 arg5 harg5 arg6 harg6 arg7 harg7 arg8 harg8 arg9 harg9 arg10 arg11 arg12 arg13
    = bodyP arg0 arg1 arg2 arg3 arg4 harg4 arg5 harg5 arg6 harg6 arg7 harg7 arg8 harg8 arg9 arg10 arg11 arg12 arg13 := by
  chain_rfl

end

end Cert.Attn

end
-- ==== Proof.Attn.Proto.lean ====
/- How the two devices of a pair talk: the barrier, and for each of the sixteen rows of keys and of values one
   transfer with a counter at either end. Which counter pays for which row, what each device owes at the start, and
   what it carries into the kernel. -/
module

public import proofs.«01_k».proof.Proof.Attn.Body
public import Idealize.ShloMosaic.Lib.Pipeline.Kit
public import Idealize.ShloMosaic.Lib.Pipeline.RegionTalk
public import Idealize.ShloMosaic.Lib.Rounds
public import Idealize.ShloMosaic.Lib.Tactic
public import Idealize.ShloMosaic.Harness.Basic

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

abbrev UU : Type := UR sig nD τ × UR sig nD τ

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-! ## The peer -/

theorem peer_peer (c : Dev nD) : peerOf (peerOf c) = c := by revert c; decide +kernel

theorem eq_peer {c d : Dev nD} (h : peerOf d = c) : d = peerOf c := by rw [← h, peer_peer]

def peerEquiv : Dev nD ≃ Dev nD := ⟨peerOf, peerOf, peer_peer, peer_peer⟩

/-! ## Buffers and counters -/

/-- The bytes of the device's own keys (0) and values (1), and where the other device's land. -/
abbrev srcM (b : Fin 2) : Memref sig .tc .vmem S16x512x64 .i8 := match b with | 0 => Memref.whole cc0_scratch1 | 1 => Memref.whole cc0_scratch2
abbrev dstM (b : Fin 2) : Memref sig .tc .vmem S16x512x64 .i8 := match b with | 0 => Memref.whole cc0_scratch3 | 1 => Memref.whole cc0_scratch4
theorem srcW (b : Fin 2) : (srcM b).IsWhole := match b with | 0 => Memref.isWhole_whole _ | 1 => Memref.isWhole_whole _
theorem dstW (b : Fin 2) : (dstM b).IsWhole := match b with | 0 => Memref.isWhole_whole _ | 1 => Memref.isWhole_whole _
abbrev sndS (b : Fin 2) : DmaSems sig S16 := match b with | 0 => cc0_scratch6 | 1 => cc0_scratch8
abbrev rcvS (b : Fin 2) : DmaSems sig S16 := match b with | 0 => cc0_scratch7 | 1 => cc0_scratch9

/-- A row's counters: the row, keys or values, departure (0) or arrival (1). -/
abbrev Ctr : Type := Fin 16 × Fin 2 × Fin 2
abbrev osem (k : Ctr) : SemLoc sig := match k.2.2 with | 0 => .dma (semAt (sndS k.2.1) k.1) | 1 => .dma (semAt (rcvS k.2.1) k.1)
abbrev barS : SemLoc sig := .reg barM.sem

theorem osem_facts : Pipeline.OwnSemFacts spec0 osem := by decide +kernel
theorem osem_inj : Function.Injective osem := osem_facts.inj
theorem osem_ne_bar (k : Ctr) : osem k ≠ barS := by
  obtain ⟨i, b, d⟩ := k
  match d with
  | 0 => exact fun h => by cases h
  | 1 => exact fun h => by cases h

abbrev barCell (c : Dev nD) : GSem nD τ sig := ((c : Thread nD τ), barS)
abbrev ctrCell (c : Dev nD) (k : Ctr) : GSem nD τ sig := ((c : Thread nD τ), osem k)
abbrev sndCell (c : Dev nD) (b : Fin 2) (i : Fin 16) : GSem nD τ sig := ctrCell c (i, b, 0)
abbrev rcvCell (c : Dev nD) (b : Fin 2) (i : Fin 16) : GSem nD τ sig := ctrCell c (i, b, 1)

theorem ctr_ne_bar (c d : Dev nD) (k : Ctr) : ctrCell c k ≠ barCell d := fun h => osem_ne_bar k (congrArg Prod.snd h)
theorem ctr_inj {c d : Dev nD} {k l : Ctr} (h : ctrCell c k = ctrCell d l) : c = d ∧ k = l :=
  ⟨Fin.ext (congrArg (fun g : GSem nD τ sig => g.1.1.val) h), osem_inj (congrArg Prod.snd h)⟩

/-- What one row counts. -/
abbrev N : ℕ := (rowM (dstM 0) 0).view.dmaCredit
theorem N_pos : 0 < N := View.dmaCredit_pos _ (by decide)

/-! ## Rows -/

/-- Row `i` of a buffer of bytes on device `c`, reading `X`. -/
abbrev rowAt (c : Dev nD) (m : Memref sig .tc .vmem S16x512x64 .i8) (i : Fin 16) (X : Vec F S1x512x64 .i8) : sProp 𝕄 :=
  owns (c : Thread nD τ) (rowM m i) fullShare X
/-- The same at contents not chosen. -/
abbrev rowAny (c : Dev nD) (m : Memref sig .tc .vmem S16x512x64 .i8) (i : Fin 16) : sProp 𝕄 :=
  iprop(∃ X, rowAt c m i X)

/-! ## The schedule -/

/-- The bytes each device sends: keys or values, the device, the row. -/
abbrev Bytes (F : FTy → Type) : Type := Fin 2 → Dev nD → Fin 16 → Vec F S1x512x64 .i8

variable (B : Bytes F)

/-- What a device's barrier is paid with: the landing rows of the other device, whose arrivals are in their first round. -/
def barRow (p : Dev nD) (i : Fin 16) : sProp 𝕄 :=
  iprop(rowAny p (dstM 0) i ∗ rowAny p (dstM 1) i ∗ reached ER (rcvCell p 0 i) 0 ∗ reached ER (rcvCell p 1 i) 0)
def barPay (c : Dev nD) : sProp 𝕄 := bigSep Finset.univ (barRow (F := F) (peerOf c))
/-- What a row's counter is paid with: the row sent back, or the other device's row landed. -/
def ctrPay (c : Dev nD) (k : Ctr) : sProp 𝕄 :=
  if k.2.2 = 0 then rowAt c (srcM k.2.1) k.1 (B k.2.1 c k.1) else rowAt c (dstM k.2.1) k.1 (B k.2.1 (peerOf c) k.1)

open Classical in
/-- One round on every counter of the exchange. -/
def talkRd : Rounds.Schedule (GSem nD τ sig) Unit 𝕄 where
  duties g r := if r = 0 ∧ g.1.2 = .tc ∧ (g.2 = barS ∨ ∃ k, g.2 = osem k) then {()} else ∅
  unitless _ := False
  amount g _ _ := if g.2 = barS then 1 else N
  payload g _ _ := if g.2 = barS then barPay g.1.1 else if h : ∃ k, g.2 = osem k then ctrPay B g.1.1 h.choose else iprop(emp)
  amount_pos g _ _ _ := by
    by_cases h : g.2 = barS
    · rw [if_pos h]; exact Nat.one_pos
    · rw [if_neg h]; exact N_pos

instance barRow_storable (p : Dev nD) (i : Fin 16) : BI.Storable (upEmb : UEmb _ 𝕄) (barRow (F := F) p i) := by
  unfold barRow; infer_instance
instance barPay_storable (c : Dev nD) : BI.Storable (upEmb : UEmb _ 𝕄) (barPay (F := F) c) := by
  unfold barPay; infer_instance
instance ctrPay_storable (c : Dev nD) (k : Ctr) : BI.Storable (upEmb : UEmb _ 𝕄) (ctrPay B c k) := by
  unfold ctrPay; split <;> infer_instance

instance talkRd_payload_storable (g : GSem nD τ sig) (r : ℕ) (d : Unit) :
    BI.Storable (upEmb : UEmb _ 𝕄) ((talkRd B).payload g r d) := by
  dsimp only [talkRd]
  split
  · infer_instance
  · split <;> infer_instance

section Sched

variable (c : Dev nD) (k : Ctr)

theorem duties_bar : (talkRd B).duties (barCell c) 0 = {()} := by dsimp only [talkRd]; exact if_pos ⟨rfl, rfl, .inl rfl⟩
theorem duties_ctr : (talkRd B).duties (ctrCell c k) 0 = {()} := by dsimp only [talkRd]; exact if_pos ⟨rfl, rfl, .inr ⟨k, rfl⟩⟩
theorem duties_later (g : GSem nD τ sig) : ∀ r, 1 ≤ r → (talkRd B).duties g r = ∅ :=
  fun r hr => by dsimp only [talkRd]; rw [if_neg (fun h => by omega)]

theorem amount_bar (u : Unit) : (talkRd B).amount (barCell c) 0 u = 1 := by dsimp only [talkRd]; exact if_pos rfl
theorem amount_ctr (u : Unit) : (talkRd B).amount (ctrCell c k) 0 u = N := by dsimp only [talkRd]; exact if_neg (osem_ne_bar k)

theorem expect_bar : (talkRd B).expect (barCell c) 0 = 1 := by
  unfold Schedule.expect Schedule.amountOf; rw [duties_bar, Finset.sum_singleton, amount_bar]
theorem expect_ctr : (talkRd B).expect (ctrCell c k) 0 = N := by
  unfold Schedule.expect Schedule.amountOf; rw [duties_ctr, Finset.sum_singleton, amount_ctr]

theorem payload_bar (u : Unit) : (talkRd B).payload (barCell c) 0 u = barPay c := by dsimp only [talkRd]; exact if_pos rfl
theorem payload_ctr (u : Unit) : (talkRd B).payload (ctrCell c k) 0 u = ctrPay B c k := by
  have h : ∃ k', osem k = osem k' := ⟨k, rfl⟩
  have e : h.choose = k := (osem_inj h.choose_spec).symm
  dsimp only [talkRd]
  rw [if_neg (osem_ne_bar k), dif_pos h, e]
theorem payload_snd (b : Fin 2) (i : Fin 16) (u : Unit) : (talkRd B).payload (sndCell c b i) 0 u = rowAt c (srcM b) i (B b c i) :=
  (payload_ctr B c _ u).trans (if_pos rfl)
theorem payload_rcv (b : Fin 2) (i : Fin 16) (u : Unit) : (talkRd B).payload (rcvCell c b i) 0 u = rowAt c (dstM b) i (B b (peerOf c) i) :=
  (payload_ctr B c _ u).trans (if_neg (show ¬((1 : Fin 2) = 0) by decide))

theorem rest_bar : bigSep ((talkRd B).duties (barCell c) 0 \ ∅) (fun u => (talkRd B).payload (barCell c) 0 u) = barPay c := by
  rw [Finset.sdiff_empty, duties_bar, bigSep_singleton, payload_bar]
theorem rest_ctr : bigSep ((talkRd B).duties (ctrCell c k) 0 \ ∅) (fun u => (talkRd B).payload (ctrCell c k) 0 u) = (talkRd B).payload (ctrCell c k) 0 () := by
  rw [Finset.sdiff_empty, duties_ctr, bigSep_singleton]

end Sched

/-! ## What a device owes; the levels -/

/-- The arrivals a device still owes its peer for the rows of a list. -/
def owedL (c : Dev nD) : List (Fin 16) → CellTallies nD τ sig Unit
  | [] => 0
  | i :: l => (owedL c l + tallyAt (rcvCell (peerOf c) 1 i) () N) + tallyAt (rcvCell (peerOf c) 0 i) () N

/-- At the start: every row, and the barrier. -/
def O₀ (c : Dev nD) : CellTallies nD τ sig Unit := owedL c rows + tallyAt (barCell (peerOf c)) () 1

theorem owedL_pos {c : Dev nD} {l : List (Fin 16)} {g : GSem nD τ sig} {u : Unit} (h : 0 < owedL c l g u) :
    ∃ b i, g = rcvCell (peerOf c) b i := by
  induction l with
  | nil => exact absurd h (Nat.lt_irrefl 0)
  | cons i l ih =>
    unfold owedL at h
    rw [Pi.add_apply, Finsupp.add_apply, Pi.add_apply, Finsupp.add_apply] at h
    rcases Nat.add_pos_iff_pos_or_pos.mp h with h | h
    · rcases Nat.add_pos_iff_pos_or_pos.mp h with h | h
      · exact ih h
      · rw [tallyAt_apply] at h
        split at h
        · next hg => exact ⟨1, i, hg.1⟩
        · exact absurd h (Nat.lt_irrefl 0)
    · rw [tallyAt_apply] at h
      split at h
      · next hg => exact ⟨0, i, hg.1⟩
      · exact absurd h (Nat.lt_irrefl 0)

theorem O₀_pos {c : Dev nD} {g : GSem nD τ sig} {u : Unit} (h : 0 < O₀ c g u) : (∃ b i, g = rcvCell (peerOf c) b i) ∨ g = barCell (peerOf c) := by
  unfold O₀ at h
  rw [Pi.add_apply, Finsupp.add_apply] at h
  rcases Nat.add_pos_iff_pos_or_pos.mp h with h | h
  · exact .inl (owedL_pos h)
  · rw [tallyAt_apply] at h
    split at h
    · next hg => exact .inr hg.1
    · exact absurd h (Nat.lt_irrefl 0)

def L (g : GSem nD τ sig) : Finset Unit := if g.1.2 = .tc then {()} else ∅
open Classical in
/-- Barriers at 1, arrivals at 2, the rest at 0. -/
def lv (g : GSem nD τ sig) (_ : Unit) : ℕ := if g.2 = barS then 1 else if ∃ b i, g.2 = osem (i, b, 1) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_rcv (c : Dev nD) (b : Fin 2) (i : Fin 16) : lv (rcvCell c b i) () = 2 := by
  unfold lv; exact (if_neg (osem_ne_bar (i, b, 1))).trans (if_pos ⟨b, i, rfl⟩)

/-- The barrier may be waited for while only arrivals are owed. -/
theorem mayWait_bar (c : Dev nD) : (levAts L lv : sProp 𝕄) ⊢ MayWait (c : Thread nD τ) barS () (owedL c rows) :=
  MayOwe.of_cut (L := L) (lev := lv) 1 (fun p hp => by rw [Finset.mem_singleton.mp hp, L_tc]; exact Finset.mem_singleton_self _)
    (fun g u hg => by obtain ⟨b, i, rfl⟩ := owedL_pos hg; rw [L_tc]; exact Finset.mem_singleton_self _)
    (fun p hp => by rw [Finset.mem_singleton.mp hp]; exact (lv_bar c).le)
    (fun g u hg => by obtain ⟨b, i, rfl⟩ := owedL_pos hg; exact (lv_rcv _ b i).symm ▸ (by decide : 1 < 2))

/-! ## What a device carries -/

/-- The records of the exchange: every counter's invariant, at the names of the launch. -/
def invs (K : GSem nD τ sig → ℕ) : sProp 𝕄 :=
  iprop((bigSep Finset.univ fun c : Dev nD => cellInv ER (talkRd B) (K (barCell c)) (barCell c))
    ∗ bigSep Finset.univ fun x : Dev nD × Ctr => cellInv ER (talkRd B) (K (ctrCell x.1 x.2)) (ctrCell x.1 x.2))

instance invs_persistent (K : GSem nD τ sig → ℕ) : BI.Persistent (invs B K) := by unfold invs; infer_instance

theorem inv_bar (K : GSem nD τ sig → ℕ) (c : Dev nD) : invs B K ⊢ cellInv ER (talkRd B) (K (barCell c)) (barCell c) := by
  have h : (bigSep Finset.univ fun c : Dev nD => (cellInv ER (talkRd B) (K (barCell c)) (barCell c) : sProp 𝕄)) ⊢ cellInv ER (talkRd B) (K (barCell c)) (barCell c) :=
    bigSep_elim (Finset.mem_univ c)
  unfold invs; iintro ⟨H, -⟩
  iapply h; iexact H
theorem inv_ctr (K : GSem nD τ sig → ℕ) (c : Dev nD) (k : Ctr) : invs B K ⊢ cellInv ER (talkRd B) (K (ctrCell c k)) (ctrCell c k) := by
  have h : (bigSep Finset.univ fun x : Dev nD × Ctr => (cellInv ER (talkRd B) (K (ctrCell x.1 x.2)) (ctrCell x.1 x.2) : sProp 𝕄)) ⊢ cellInv ER (talkRd B) (K (ctrCell c k)) (ctrCell c k) :=
    bigSep_elim (i := (c, k)) (Finset.mem_univ (c, k))
  unfold invs; iintro ⟨-, H⟩
  iapply h; iexact H

/-- For one row: the rights to pay its departure and the peer's arrival, keys and values. -/
def payRow (c : Dev nD) (i : Fin 16) : sProp 𝕄 :=
  iprop((dutyTok ER (sndCell c 0 i) 0 () ∗ dutyTok ER (rcvCell (peerOf c) 0 i) 0 ())
    ∗ (dutyTok ER (sndCell c 1 i) 0 () ∗ dutyTok ER (rcvCell (peerOf c) 1 i) 0 ()))
/-- For one row: the arrivals it may wait for. -/
def credRow (c : Dev nD) (i : Fin 16) : sProp 𝕄 :=
  iprop(cred (tallyAt (rcvCell c 0 i) () N) ∗ cred (tallyAt (rcvCell c 1 i) () N))

/-- What a device carries from the start to the kernel. -/
def ghost (K : GSem nD τ sig → ℕ) (c : Dev nD) : sProp 𝕄 :=
  iprop(invs B K ∗ atPos ER (barCell c) 0 ∅ 0 ∗ (bigSep Finset.univ fun k : Ctr => openTok ER (ctrCell c k))
    ∗ reached ER (barCell (peerOf c)) 0 ∗ dutyTok ER (barCell (peerOf c)) 0 ()
    ∗ bigSep Finset.univ (payRow (F := F) c))

/-- The credits it waits with. -/
def credits (c : Dev nD) : sProp 𝕄 :=
  iprop(cred (tallyAt (barCell c) () 1) ∗ bigSep Finset.univ (credRow (F := F) c))

/-- One row's counters once open: where the device stands on each, and that round 0 is reached. -/
def posRow (c : Dev nD) (i : Fin 16) : sProp 𝕄 :=
  iprop((atPos ER (sndCell c 0 i) 0 ∅ 0 ∗ atPos ER (rcvCell c 0 i) 0 ∅ 0)
    ∗ (atPos ER (sndCell c 1 i) 0 ∅ 0 ∗ atPos ER (rcvCell c 1 i) 0 ∅ 0))
def hitRow (c : Dev nD) (i : Fin 16) : sProp 𝕄 :=
  iprop((reached ER (sndCell c 0 i) 0 ∗ reached ER (rcvCell c 0 i) 0)
    ∗ (reached ER (sndCell c 1 i) 0 ∗ reached ER (rcvCell c 1 i) 0))
instance hitRow_persistent (c : Dev nD) (i : Fin 16) : BI.Persistent (hitRow (F := F) c i) := by unfold hitRow; infer_instance

def opened (K : GSem nD τ sig → ℕ) (c : Dev nD) : sProp 𝕄 :=
  iprop(invs B K ∗ atPos ER (barCell c) 0 ∅ 0 ∗ bigSep Finset.univ (posRow (F := F) c) ∗ bigSep Finset.univ (hitRow (F := F) c)
    ∗ reached ER (barCell (peerOf c)) 0 ∗ dutyTok ER (barCell (peerOf c)) 0 ()
    ∗ bigSep Finset.univ (payRow (F := F) c))

theorem close (κ : ℕ) (g : GSem nD τ sig) :
    iprop(cellInv ER (talkRd B) κ g ∗ atPos ER g (0 + 1) ∅ 0) ⊢ (|={Set.univ}=> semVal g 0 : sProp 𝕄) :=
  Rounds.cell_close ER (talkRd B) (Set.mem_univ κ) id (duties_later B g)

abbrev 𝒱₀ : Variants := Variants.none

end Cert.Attn

end
-- ==== Proof.Attn.Steps.lean ====
/- The short stretches of the kernel's body, each run once at a symbolic row: a row read, a row written, a row sent,
   a counter waited for; and a stretch repeated along a list. -/
module

public import proofs.«01_k».proof.Proof.Attn.Proto
public import Idealize.ShloMosaic.Lib.Pipeline.BigSepL

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-- A device runs a piece of the body. -/
abbrev WP (c : Dev nD) (p : KP F) (K : PUnit → sProp 𝕄) : sProp 𝕄 :=
  wp frame (wpE (defs₀ (F := F)) 𝒱₀ (c : Thread nD τ) none) Set.univ p K

variable (c : Dev nD)

/-! ## Reading and writing -/

section Access
variable {s : Shape} {e : EltTy} (m : Memref sig .tc .vmem s e)

/-- A row read. -/
theorem load_row {r : Rect s} {hr : ∀ a, r.stride a = 1} {hl} {k : (r.shape.Idx → Elt F e) → KP F} {q : PosShare TreeShare} {X : r.shape.Idx → Elt F e} {K} :
    (owns (c : Thread nD τ) (m.slice r hr) q X : sProp 𝕄)
      ⊢ iprop((owns (c : Thread nD τ) (m.slice r hr) q X -∗ WP c (k X) K) -∗ WP c (.op (.load m r.toLoadRect hl) k) K) := by
  unfold owns
  iintro ⟨%f, %hf, H⟩ HK
  iapply (wp_load_rect 𝒱₀ (c : Thread nD τ) none Set.univ (m := m) (r := r) (f := f) (Finset.Subset.refl _)) $$ H
  iintro H
  rw [show (m.access r).read (Elt F) f = X from hf]
  iapply HK
  iexists f; isplitr; · ipureintro; exact hf
  iexact H

/-- A part of a buffer read. -/
theorem load_part {r : Rect s} {hl} {k : (r.shape.Idx → Elt F e) → KP F} {q : PosShare TreeShare} {X : s.Idx → Elt F e} {K} :
    (owns (c : Thread nD τ) m q X : sProp 𝕄)
      ⊢ iprop((owns (c : Thread nD τ) m q X -∗ WP c (k fun j => X (r.emb j)) K) -∗ WP c (.op (.load m r.toLoadRect hl) k) K) := by
  unfold owns
  iintro ⟨%f, %hf, H⟩ HK
  iapply (wp_load_rect 𝒱₀ (c : Thread nD τ) none Set.univ (m := m) (r := r) (f := f) (View.set_slice_subset m.view r)) $$ H
  iintro H
  rw [show (m.access r).read (Elt F) f = fun j => X (r.emb j) from by rw [← hf]; rfl]
  iapply HK
  iexists f; isplitr; · ipureintro; exact hf
  iexact H

/-- A row written. -/
theorem store_row {r : Rect s} {hr : ∀ a, r.stride a = 1} {w : r.shape.Idx → Elt F e} {hx hm} {k : PUnit → KP F} {X : r.shape.Idx → Elt F e} {K} :
    (owns (c : Thread nD τ) (m.slice r hr) fullShare X : sProp 𝕄)
      ⊢ iprop((owns (c : Thread nD τ) (m.slice r hr) fullShare w -∗ WP c (k ⟨⟩) K) -∗ WP c (.op (.store m r w Finset.univ hx hm) k) K) := by
  unfold owns
  iintro ⟨%f, %hf, H⟩ HK
  iapply (wp_store 𝒱₀ (c : Thread nD τ) none Set.univ (m := m) (r := r) (w := w) (Mk := Finset.univ) (f := f) (S := (m.access r).set)
    (by rw [View.setOn_univ])) $$ H
  iintro H
  iapply HK
  iexists _; isplitr; · ipureintro; exact View.read_write_univ (v := m.access r) f w
  iexact H

/-- A whole buffer written through a rectangle that is all of it. -/
theorem store_all {r : Rect s} {w : r.shape.Idx → Elt F e} {hx hm} {k : PUnit → KP F} {X Y : s.Idx → Elt F e} {K}
    (hY : ∀ j, Y (r.emb j) = w j) (hr : ∀ x, ∃ j, r.emb j = x) :
    (owns (c : Thread nD τ) m fullShare X : sProp 𝕄)
      ⊢ iprop((owns (c : Thread nD τ) m fullShare Y -∗ WP c (k ⟨⟩) K) -∗ WP c (.op (.store m r w Finset.univ hx hm) k) K) := by
  unfold owns
  iintro ⟨%f, %hf, H⟩ HK
  iapply (wp_store 𝒱₀ (c : Thread nD τ) none Set.univ (m := m) (r := r) (w := w) (Mk := Finset.univ) (f := f) (View.set_slice_subset m.view r)) $$ H
  iintro H
  iapply HK
  iexists _; isplitr
  · ipureintro; exact funext fun x => by
      obtain ⟨j, rfl⟩ := hr x
      rw [hY]; exact View.read_slice_write_emb (v := m.view) r f w (Finset.mem_univ j)
  iexact H

end Access

/-! ## Along a list -/

theorem each_run (f : Fin 16 → KP F) (S : List (Fin 16) → sProp 𝕄) (Φ Ψ : Fin 16 → sProp 𝕄)
    (step : ∀ i l (K : PUnit → sProp 𝕄), iprop(S (i :: l) ∗ Φ i ∗ (iprop(S l ∗ Ψ i) -∗ K ⟨⟩)) ⊢ WP c (f i) K) :
    ∀ (l : List (Fin 16)) (K : PUnit → sProp 𝕄),
      iprop(S l ∗ bigSepL l Φ ∗ (iprop(S [] ∗ bigSepL l Ψ) -∗ K ⟨⟩)) ⊢ WP c (each f l) K
  | [], K => by
    show _ ⊢ WP c (.ret ⟨⟩) K
    unfold WP
    rw [wp_ret]
    iintro ⟨HS, H, HK⟩
    imodintro
    iapply HK
    isplitl [HS]; · iexact HS
    iexact H
  | i :: l, K => by
    show _ ⊢ WP c (f i >>= fun _ => each f l) K
    unfold WP
    rw [wp_bind, bigSepL_cons', bigSepL_cons']
    iintro ⟨HS, ⟨Hi, Hl⟩, HK⟩
    iapply (step i l _)
    isplitl [HS]; · iexact HS
    isplitl [Hi]; · iexact Hi
    iintro ⟨HS, Hi⟩
    iapply (each_run f S Φ Ψ step l K)
    isplitl [HS]; · iexact HS
    isplitl [Hl]; · iexact Hl
    iintro ⟨HS, Hl⟩
    iapply HK
    isplitl [HS]; · iexact HS
    isplitl [Hi] <;> iassumption

theorem rows_eq (Φ : Fin 16 → sProp 𝕄) : bigSep Finset.univ Φ = bigSepL rows Φ :=
  bigSep_univ_eq_bigSepL rows (by decide) (by decide) Φ

theorem rows_run (f : Fin 16 → KP F) (S : sProp 𝕄) (Φ Ψ : Fin 16 → sProp 𝕄)
    (step : ∀ i (K : PUnit → sProp 𝕄), iprop(S ∗ Φ i ∗ (iprop(S ∗ Ψ i) -∗ K ⟨⟩)) ⊢ WP c (f i) K) (K : PUnit → sProp 𝕄) :
    iprop(S ∗ bigSep Finset.univ Φ ∗ (iprop(S ∗ bigSep Finset.univ Ψ) -∗ K ⟨⟩)) ⊢ WP c (each f rows) K := by
  rw [rows_eq, rows_eq]
  exact each_run c f (fun _ => S) Φ Ψ (fun i _ K => step i K) rows K

/-! ## The stretches -/

/-- Row `i` of an array. -/
abbrev rowOf {e : EltTy} (X : S16x512x64.Idx → Elt F e) (i : Fin 16) : Vec F S1x512x64 e := fun j => X ((rowR i).emb j)

theorem quantRow_run (src : Memref sig .tc .vmem S16x512x64 .f32) (dst : Memref sig .tc .vmem S16x512x64 .i8) (hdst : dst.IsWhole) (i : Fin 16)
    (q : PosShare TreeShare) (X : S16x512x64.Idx → Elt F .f32) (K : PUnit → sProp 𝕄) :
    iprop(owns (c : Thread nD τ) src q X ∗ rowAny c dst i ∗ (iprop(owns (c : Thread nD τ) src q X ∗ rowAt c dst i (k0_pay1 (rowOf X i))) -∗ K ⟨⟩))
      ⊢ WP c (quantRow src dst hdst i) K := by
  simp only [quantRow, Prog.lift, Prog.bind_op, Prog.bind_ret]
  iintro ⟨Hs, ⟨%Y, Hd⟩, HK⟩
  iapply (load_part c src) $$ Hs
  iintro Hs
  iapply (load_row c dst) $$ Hd
  iintro Hd
  iapply (store_row c dst) $$ Hd
  iintro Hd
  unfold WP
  rw [wp_ret]
  imodintro
  iapply HK
  isplitl [Hs]; · iexact Hs
  iexact Hd

variable (B : Bytes F)

theorem sendRow_run (κ : GSem nD τ sig → ℕ) (b : Fin 2) (i : Fin 16) (O : CellTallies nD τ sig Unit) (W : Waits sig Unit) (K : PUnit → sProp 𝕄) :
    iprop(invs B κ ∗ rowAt c (srcM b) i (B b c i) ∗ rowAny (peerOf c) (dstM b) i
        ∗ owes (c : Thread nD τ) (O + tallyAt (rcvCell (peerOf c) b i) () N) W
        ∗ (dutyTok ER (sndCell c b i) 0 () ∗ dutyTok ER (rcvCell (peerOf c) b i) 0 ())
        ∗ reached ER (sndCell c b i) 0 ∗ reached ER (rcvCell (peerOf c) b i) 0
        ∗ (iprop(cred (tallyAt (sndCell c b i) () N) ∗ owes (c : Thread nD τ) O W) -∗ K ⟨⟩))
      ⊢ WP c (sendRow c (srcM b) (srcW b) (dstM b) (dstW b) (sndS b) (rcvS b) i) K := by
  simp only [sendRow, Prog.lift]
  iintro ⟨#HI, Hs, ⟨%Y, Hd⟩, HO, ⟨Ht, Ht'⟩, #Hr, #Hr', HK⟩
  ihave Hs2 := (show rowAt c (srcM b) i (B b c i) ⊢ (iprop(∃ f, ⌜(rowM (srcM b) i).view.read (Elt F) f = B b c i⌝ ∗ ((rowM (srcM b) i).view.loc (c : Thread nD τ) ↦[(rowM (srcM b) i).view.set]{fullShare} f)) : sProp 𝕄) from .rfl) $$ Hs
  icases Hs2 with ⟨%fs, %hfs, Hs⟩
  ihave Hd2 := (show rowAt (peerOf c) (dstM b) i Y ⊢ (iprop(∃ f, ⌜(rowM (dstM b) i).view.read (Elt F) f = Y⌝ ∗ ((rowM (dstM b) i).view.loc (peerOf c : Thread nD τ) ↦[(rowM (dstM b) i).view.set]{fullShare} f)) : sProp 𝕄) from .rfl) $$ Hd
  icases Hd2 with ⟨%fd, %hfd, Hd⟩
  iapply (Rounds.wp_send_pointsTo 𝒱₀ ER (talkRd B) (c : Thread nD τ) none (c' := (peerOf c : Thread nD τ)) (src := rowM (srcM b) i) (dst := rowM (dstM b) i)
      (sS := .dma (semAt (sndS b) i)) (sem := .dma (semAt (rcvS b) i)) (q := fullShare) (fs := fs) (κ₁ := κ (sndCell c b i)) (κ₂ := κ (rcvCell (peerOf c) b i))
      (r₁ := 0) (r₂ := 0) (d₁ := ()) (d₂ := ()) (fd := fd)
      (by rw [show (((c : Thread nD τ), SemLoc.dma (semAt (sndS b) i)) : GSem nD τ sig) = sndCell c b i from rfl, duties_ctr]; exact Finset.mem_singleton_self _)
      (by rw [show (((peerOf c : Thread nD τ), SemLoc.dma (semAt (rcvS b) i)) : GSem nD τ sig) = rcvCell (peerOf c) b i from rfl, duties_ctr]; exact Finset.mem_singleton_self _)
      () () N (by match b with | 0 => rfl | 1 => rfl) (amount_ctr B c (i, b, 0) ()) (amount_ctr B (peerOf c) (i, b, 1) ()) O rfl (W := W)
      (by
        rw [show (((c : Thread nD τ), SemLoc.dma (semAt (sndS b) i)) : GSem nD τ sig) = sndCell c b i from rfl, payload_snd, ← hfs]
        exact owns_intro (c : Thread nD τ) (rowM (srcM b) i) fullShare fs)
      (by
        rw [show (((peerOf c : Thread nD τ), SemLoc.dma (semAt (rcvS b) i)) : GSem nD τ sig) = rcvCell (peerOf c) b i from rfl, payload_rcv, peer_peer, hfs]
        refine (owns_intro (peerOf c : Thread nD τ) (rowM (dstM b) i) fullShare _).trans ?_
        rw [View.read_write_univ])) $$ [Hs Hd HO Ht Ht']
  · isplitr; · iapply (inv_ctr B κ c (i, b, 0)); iexact HI
    isplitr; · iapply (inv_ctr B κ (peerOf c) (i, b, 1)); iexact HI
    isplitl [Hs]; · iexact Hs
    isplitl [Hd]; · iexact Hd
    isplitl [HO]; · iexact HO
    isplitl [Ht]; · iexact Ht
    isplitr; · iexact Hr
    isplitl [Ht']; · iexact Ht'
    iexact Hr'
  iintro H
  rw [wp_ret]
  imodintro
  iapply HK $$ H

/-- A row's counter waited for, nothing owed: what it is paid with comes back. -/
theorem waitRow_run (κ : GSem nD τ sig → ℕ) (k : Ctr) (s : DmaSems sig S16) (i : Fin 16) (hs : SemLoc.dma (semAt s i) = osem k)
    (src : Memref sig .tc .vmem S16x512x64 .i8) (hsrc : src.IsWhole) (dst : Memref sig .tc .vmem S16x512x64 .i8) (hdst : dst.IsWhole)
    (hN : (rowM dst i).view.dmaCredit = N) (W : Waits sig Unit) (K : PUnit → sProp 𝕄) :
    iprop(invs B κ ∗ cred (tallyAt (ctrCell c k) () N) ∗ owes (c : Thread nD τ) 0 W ∗ atPos ER (ctrCell c k) 0 ∅ 0
        ∗ (iprop((∃ W, owes (c : Thread nD τ) 0 W) ∗ atPos ER (ctrCell c k) (0 + 1) ∅ 0 ∗ (talkRd B).payload (ctrCell c k) 0 ()) -∗ K ⟨⟩))
      ⊢ WP c (waitRow s src hsrc dst hdst i) K := by
  simp only [waitRow, Prog.lift]
  iintro ⟨#HI, Hc, HO, Hat, HK⟩
  iapply (Rounds.wp_wait_rest_token 𝒱₀ ER (talkRd B) (c : Thread nD τ) none (κ := κ (ctrCell c k)) (sm := osem k)
      (by rw [← hs]; exact wpE_waitDma2_eq 𝒱₀ (c : Thread nD τ) none Set.univ) (Set.mem_univ _) () (O := 0) (W := W) (R := 0) (m := 0) (T := ∅)
      ((Nat.zero_add _).trans (hN.trans (expect_ctr B c k).symm))) $$ [Hc HO Hat]
  · isplitr; · iapply (inv_ctr B κ c k); iexact HI
    isplitl [Hc]; · rw [hN]; iexact Hc
    isplitl [HO]; · iexact HO
    isplitr; · rw [MayWait_zero]; iempintro
    iexact Hat
  iintro ⟨HO, Hat, -, Hpay⟩
  rw [wp_ret]
  imodintro
  iapply HK
  isplitl [HO]; · iexists _; iexact HO
  isplitl [Hat]; · iexact Hat
  rw [← rest_ctr B c k]; iexact Hpay

end Cert.Attn

end
-- ==== Proof.Attn.Run.lean ====
/- The body run once, at a symbolic device: what it holds before, and what it holds after. -/
module

public import proofs.«01_k».proof.Proof.Attn.Steps
public import Idealize.ShloMosaic.Lib.Pipeline.ValueKit.Geometry

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The buffers, and what the run leaves -/

abbrev qM : Memref sig .tc .vmem S16x512x64 .f32 := Memref.whole cc0_stg0_0
abbrev kM : Memref sig .tc .vmem S16x512x64 .f32 := Memref.whole cc0_stg1_0
abbrev vM : Memref sig .tc .vmem S16x512x64 .f32 := Memref.whole cc0_stg2_0
abbrev oM : Memref sig .tc .vmem S16x512x64 .f32 := Memref.whole cc0_stg3_0
abbrev nM : Memref sig .tc .vmem S16x512x64 .bf16 := Memref.whole cc0_scratch0
abbrev lM : Memref sig .tc .vmem S16x512x1 .f32 := Memref.whole cc0_scratch5

/-- Queries, keys or values of all devices, as the kernel takes them. -/
abbrev Arr (F : FTy → Type) : Type := Dev nD → Vec F S16x512x64 .f32

/-- The bytes each device sends. -/
def bytesOf (K V : Arr F) : Bytes F := fun b c i => if b = 0 then k0_pay1 (rowOf (K c) i) else k0_pay1 (rowOf (V c) i)
theorem bytes_keys (K V : Arr F) (c : Dev nD) (i : Fin 16) : bytesOf K V 0 c i = k0_pay1 (rowOf (K c) i) := if_pos rfl
theorem bytes_vals (K V : Arr F) (c : Dev nD) (i : Fin 16) : bytesOf K V 1 c i = k0_pay1 (rowOf (V c) i) :=
  if_neg (show ¬((1 : Fin 2) = 0) by decide)

variable (Q K V : Arr F)

/-- The numerators and denominators over a device's own half. -/
abbrev ownO (c : Dev nD) (i : Fin 16) : Vec F S1x512x64 .f32 := k0_pay43 (rowOf (Q c) i) (rowOf (K c) i) (rowOf (V c) i)
abbrev ownL (c : Dev nD) (i : Fin 16) : Vec F S1x512x1 .f32 := k0_pay42 (rowOf (Q c) i) (rowOf (K c) i)
/-- Row `i` of the result. -/
def outRow (c : Dev nD) (i : Fin 16) : Vec F S1x512x64 .f32 :=
  k0_pay126 (rowOf (k0_pay40 (Q c)) i) (bytesOf K V 0 (peerOf c) i) (bytesOf K V 1 (peerOf c) i) (ownO Q K V c i) (ownL Q K c i)

section
variable (c : Dev nD)

abbrev oRow (i : Fin 16) (X : Vec F S1x512x64 .f32) : sProp 𝕄 := owns (c : Thread nD τ) (oM.slice (rowR i) (fun _ => rfl)) fullShare X
abbrev oAny (i : Fin 16) : sProp 𝕄 := iprop(∃ X, oRow c i X)
abbrev lRow (i : Fin 16) (X : Vec F S1x512x1 .f32) : sProp 𝕄 := owns (c : Thread nD τ) (lM.slice (rowL i) (fun _ => rfl)) fullShare X
abbrev lAny (i : Fin 16) : sProp 𝕄 := iprop(∃ X, lRow c i X)
abbrev qAt (X : Vec F S16x512x64 .f32) : sProp 𝕄 := owns (c : Thread nD τ) qM fullShare X
abbrev kAt (X : Vec F S16x512x64 .f32) : sProp 𝕄 := owns (c : Thread nD τ) kM fullShare X
abbrev vAt (X : Vec F S16x512x64 .f32) : sProp 𝕄 := owns (c : Thread nD τ) vM fullShare X
abbrev nAt (X : Vec F S16x512x64 .bf16) : sProp 𝕄 := owns (c : Thread nD τ) nM fullShare X

abbrev sndPos (i : Fin 16) (n : ℕ) : sProp 𝕄 := iprop(atPos ER (sndCell c 0 i) n ∅ 0 ∗ atPos ER (sndCell c 1 i) n ∅ 0)
abbrev rcvPos (i : Fin 16) (n : ℕ) : sProp 𝕄 := iprop(atPos ER (rcvCell c 0 i) n ∅ 0 ∗ atPos ER (rcvCell c 1 i) n ∅ 0)
abbrev bytesAny (i : Fin 16) : sProp 𝕄 := iprop(rowAny c (srcM 0) i ∗ rowAny c (srcM 1) i)
abbrev landAny (i : Fin 16) : sProp 𝕄 := iprop(rowAny c (dstM 0) i ∗ rowAny c (dstM 1) i)
abbrev bytesAt (i : Fin 16) : sProp 𝕄 := iprop(rowAt c (srcM 0) i (bytesOf K V 0 c i) ∗ rowAt c (srcM 1) i (bytesOf K V 1 c i))
abbrev sentRow (i : Fin 16) : sProp 𝕄 := iprop(cred (tallyAt (sndCell c 0 i) () N) ∗ cred (tallyAt (sndCell c 1 i) () N))

/-! ## The stretches at the buffers -/

theorem quantP_run (i : Fin 16) (Kt : PUnit → sProp 𝕄) :
    iprop((kAt c (K c) ∗ vAt c (V c)) ∗ bytesAny c i ∗ (iprop((kAt c (K c) ∗ vAt c (V c)) ∗ bytesAt K V c i) -∗ Kt ⟨⟩))
      ⊢ WP c (quantP kM vM (srcM 0) (srcW 0) (srcM 1) (srcW 1) i) Kt := by
  show _ ⊢ WP c (quantRow kM (srcM 0) (srcW 0) i >>= fun _ => quantRow vM (srcM 1) (srcW 1) i) Kt
  unfold WP
  rw [wp_bind]
  iintro ⟨⟨HK, HV⟩, ⟨H0, H1⟩, Hk⟩
  iapply (quantRow_run c kM (srcM 0) (srcW 0) i fullShare (K c) _)
  isplitl [HK]; · iexact HK
  isplitl [H0]; · iexact H0
  iintro ⟨HK, H0⟩
  iapply (quantRow_run c vM (srcM 1) (srcW 1) i fullShare (V c) _)
  isplitl [HV]; · iexact HV
  isplitl [H1]; · iexact H1
  iintro ⟨HV, H1⟩
  iapply Hk
  isplitl [HK HV]
  · isplitl [HK]; · iexact HK
    iexact HV
  isplitl [H0]
  · rw [bytes_keys]; iexact H0
  · rw [bytes_vals]; iexact H1

theorem sendP_run (κ : GSem nD τ sig → ℕ) (i : Fin 16) (l : List (Fin 16)) (Kt : PUnit → sProp 𝕄) :
    iprop((invs (bytesOf K V) κ ∗ ∃ W, owes (c : Thread nD τ) (owedL c (i :: l)) W)
        ∗ (bytesAt K V c i ∗ barRow (peerOf c) i ∗ hitRow c i ∗ payRow c i)
        ∗ (iprop((∃ W, owes (c : Thread nD τ) (owedL c l) W) ∗ sentRow c i) -∗ Kt ⟨⟩))
      ⊢ WP c (sendP (srcM 0) (srcW 0) (srcM 1) (srcW 1) (dstM 0) (dstW 0) (dstM 1) (dstW 1) (sndS 0) (rcvS 0) (sndS 1) (rcvS 1) c i) Kt := by
  show _ ⊢ WP c (sendRow c (srcM 0) (srcW 0) (dstM 0) (dstW 0) (sndS 0) (rcvS 0) i >>= fun _ => sendRow c (srcM 1) (srcW 1) (dstM 1) (dstW 1) (sndS 1) (rcvS 1) i) Kt
  unfold WP barRow hitRow payRow
  rw [wp_bind]
  iintro ⟨⟨#HI, ⟨%W, HO⟩⟩, ⟨⟨Hb0, Hb1⟩, ⟨Hd0, Hd1, #Hp0, #Hp1⟩, ⟨⟨#Hr0, -⟩, ⟨#Hr1, -⟩⟩, Ht0, Ht1⟩, Hk⟩
  iapply (sendRow_run c (bytesOf K V) κ 0 i (owedL c l + tallyAt (rcvCell (peerOf c) 1 i) () N) W _)
  isplitr; · iexact HI
  isplitl [Hb0]; · iexact Hb0
  isplitl [Hd0]; · iexact Hd0
  isplitl [HO]; · iexact HO
  isplitl [Ht0]; · iexact Ht0
  isplitr; · iexact Hr0
  isplitr; · iexact Hp0
  iintro ⟨Hc0, HO⟩
  iapply (sendRow_run c (bytesOf K V) κ 1 i (owedL c l) W _)
  isplitr; · iexact HI
  isplitl [Hb1]; · iexact Hb1
  isplitl [Hd1]; · iexact Hd1
  isplitl [HO]; · iexact HO
  isplitl [Ht1]; · iexact Ht1
  isplitr; · iexact Hr1
  isplitr; · iexact Hp1
  iintro ⟨Hc1, HO⟩
  iapply Hk
  isplitl [HO]; · iexists W; iexact HO
  isplitl [Hc0]; · iexact Hc0
  iexact Hc1

theorem shipP_run (κ : GSem nD τ sig → ℕ) (i : Fin 16) (l : List (Fin 16)) (Kt : PUnit → sProp 𝕄) :
    iprop((invs (bytesOf K V) κ ∗ (kAt c (K c) ∗ vAt c (V c)) ∗ ∃ W, owes (c : Thread nD τ) (owedL c (i :: l)) W)
        ∗ ((bytesAny c i ∗ hitRow c i ∗ payRow c i) ∗ barRow (peerOf c) i)
        ∗ (iprop((invs (bytesOf K V) κ ∗ (kAt c (K c) ∗ vAt c (V c)) ∗ ∃ W, owes (c : Thread nD τ) (owedL c l) W) ∗ sentRow c i) -∗ Kt ⟨⟩))
      ⊢ WP c ((quantP kM vM (srcM 0) (srcW 0) (srcM 1) (srcW 1) i).bind fun _ =>
          sendP (srcM 0) (srcW 0) (srcM 1) (srcW 1) (dstM 0) (dstW 0) (dstM 1) (dstW 1) (sndS 0) (rcvS 0) (sndS 1) (rcvS 1) c i) Kt := by
  show _ ⊢ WP c (quantP kM vM (srcM 0) (srcW 0) (srcM 1) (srcW 1) i >>= fun _ =>
          sendP (srcM 0) (srcW 0) (srcM 1) (srcW 1) (dstM 0) (dstW 0) (dstM 1) (dstW 1) (sndS 0) (rcvS 0) (sndS 1) (rcvS 1) c i) Kt
  unfold WP
  rw [wp_bind]
  iintro ⟨⟨#HI, HKV, HO⟩, ⟨⟨Hs, Hh, Hp⟩, Hb⟩, Hk⟩
  iapply (quantP_run K V c i _)
  isplitl [HKV]; · iexact HKV
  isplitl [Hs]; · iexact Hs
  iintro ⟨HKV, Hs⟩
  iapply (sendP_run K V c κ i l Kt)
  isplitl [HO]
  · isplitr; · iexact HI
    iexact HO
  isplitl [Hs Hb Hh Hp]
  · isplitl [Hs]; · iexact Hs
    isplitl [Hb]; · iexact Hb
    isplitl [Hh]; · iexact Hh
    iexact Hp
  iintro ⟨HO, Hc⟩
  iapply Hk
  isplitl [HKV HO]
  · isplitr; · iexact HI
    isplitl [HKV]; · iexact HKV
    iexact HO
  iexact Hc

theorem allR_emb (j : S16x512x64.Idx) : allR.emb j = j := by
  funext a
  apply Fin.ext
  refine (ValueKit.rect_emb_unit_val _ _ _ j a).trans ?_
  rw [show (![0, 0, 0] : Fin 3 → Nat) a = 0 from by revert a; decide]; omega

theorem queryP_run (Kt : PUnit → sProp 𝕄) :
    iprop(qAt c (Q c) ∗ (∃ X, nAt c X) ∗ (iprop(qAt c (Q c) ∗ nAt c (k0_pay40 (Q c))) -∗ Kt ⟨⟩))
      ⊢ WP c (queryP qM nM (Memref.isWhole_whole _)) Kt := by
  simp only [queryP, Prog.lift, Prog.bind_op, Prog.bind_ret]
  iintro ⟨HQ, ⟨%X, Hn⟩, Hk⟩
  iapply (load_part c qM) $$ HQ
  iintro HQ
  iapply (load_part c nM) $$ Hn
  iintro Hn
  iapply (store_all c nM (Y := k0_pay40 (Q c)) (by
      intro j
      rw [show (fun j => Q c (allR.emb j)) = Q c from funext fun j => congrArg (Q c) (allR_emb j), allR_emb])
    (fun x => ⟨x, allR_emb x⟩)) $$ Hn
  iintro Hn
  unfold WP
  rw [wp_ret]
  imodintro
  iapply Hk
  isplitl [HQ]; · iexact HQ
  iexact Hn

theorem ownP_run (i : Fin 16) (Kt : PUnit → sProp 𝕄) :
    iprop((qAt c (Q c) ∗ kAt c (K c) ∗ vAt c (V c)) ∗ (oAny c i ∗ lAny c i)
        ∗ (iprop((qAt c (Q c) ∗ kAt c (K c) ∗ vAt c (V c)) ∗ (oRow c i (ownO Q K V c i) ∗ lRow c i (ownL Q K c i))) -∗ Kt ⟨⟩))
      ⊢ WP c (ownP qM kM vM oM lM i) Kt := by
  simp only [ownP, Prog.lift, Prog.bind_op, Prog.bind_ret]
  iintro ⟨⟨HQ, HK, HV⟩, ⟨⟨%X, Ho⟩, ⟨%Y, Hl⟩⟩, Hk⟩
  iapply (load_part c qM) $$ HQ
  iintro HQ
  iapply (load_part c kM) $$ HK
  iintro HK
  iapply (load_row c lM) $$ Hl
  iintro Hl
  iapply (store_row c lM) $$ Hl
  iintro Hl
  iapply (load_part c vM) $$ HV
  iintro HV
  iapply (load_row c oM) $$ Ho
  iintro Ho
  iapply (store_row c oM) $$ Ho
  iintro Ho
  unfold WP
  rw [wp_ret]
  imodintro
  iapply Hk
  isplitl [HQ HK HV]
  · isplitl [HQ]; · iexact HQ
    isplitl [HK]; · iexact HK
    iexact HV
  isplitl [Ho]; · iexact Ho
  iexact Hl

theorem otherP_run (κ : GSem nD τ sig → ℕ) (i : Fin 16) (Kt : PUnit → sProp 𝕄) :
    iprop((invs (bytesOf K V) κ ∗ nAt c (k0_pay40 (Q c)) ∗ ∃ W, owes (c : Thread nD τ) 0 W)
        ∗ ((oRow c i (ownO Q K V c i) ∗ lRow c i (ownL Q K c i)) ∗ credRow c i ∗ rcvPos c i 0)
        ∗ (iprop((invs (bytesOf K V) κ ∗ nAt c (k0_pay40 (Q c)) ∗ ∃ W, owes (c : Thread nD τ) 0 W)
            ∗ (oRow c i (outRow Q K V c i) ∗ lAny c i ∗ landAny c i ∗ rcvPos c i (0 + 1))) -∗ Kt ⟨⟩))
      ⊢ WP c (otherP oM nM (srcM 0) (srcW 0) (srcM 1) (srcW 1) (dstM 0) (dstW 0) (dstM 1) (dstW 1) lM (rcvS 0) (rcvS 1) i) Kt := by
  unfold otherP
  unfold WP credRow
  rw [wp_bind]
  iintro ⟨⟨#HI, Hn, ⟨%W, HO⟩⟩, ⟨⟨Ho, Hl⟩, ⟨Hc0, Hc1⟩, ⟨Ha0, Ha1⟩⟩, Hk⟩
  iapply (waitRow_run c (bytesOf K V) κ (i, 0, 1) (rcvS 0) i rfl (srcM 0) (srcW 0) (dstM 0) (dstW 0) rfl W _)
  isplitr; · iexact HI
  isplitl [Hc0]; · iexact Hc0
  isplitl [HO]; · iexact HO
  isplitl [Ha0]; · iexact Ha0
  iintro ⟨⟨%W', HO⟩, Ha0, Hx⟩
  ihave H0 := (Entails.of_eq (payload_rcv (bytesOf K V) c 0 i ())) $$ Hx
  rw [wp_bind]
  iapply (waitRow_run c (bytesOf K V) κ (i, 1, 1) (rcvS 1) i rfl (srcM 1) (srcW 1) (dstM 1) (dstW 1) rfl W' _)
  isplitr; · iexact HI
  isplitl [Hc1]; · iexact Hc1
  isplitl [HO]; · iexact HO
  isplitl [Ha1]; · iexact Ha1
  iintro ⟨HO, Ha1, Hx⟩
  ihave H1 := (Entails.of_eq (payload_rcv (bytesOf K V) c 1 i ())) $$ Hx
  simp only [Prog.lift, Prog.bind_op, Prog.bind_ret]
  iapply (load_part c nM) $$ Hn
  iintro Hn
  iapply (load_row c (dstM 0)) $$ H0
  iintro H0
  iapply (load_row c (dstM 1)) $$ H1
  iintro H1
  iapply (load_row c oM) $$ Ho
  iintro Ho
  iapply (load_row c lM) $$ Hl
  iintro Hl
  iapply (load_row c oM) $$ Ho
  iintro Ho
  iapply (store_row c oM) $$ Ho
  iintro Ho
  unfold WP
  rw [wp_ret]
  imodintro
  iapply Hk
  isplitl [Hn HO]
  · isplitr; · iexact HI
    isplitl [Hn]; · iexact Hn
    iexact HO
  isplitl [Ho]; · unfold outRow; iexact Ho
  isplitl [Hl]; · iexists _; iexact Hl
  isplitl [H0 H1]
  · isplitl [H0]; · iexists _; iexact H0
    iexists _; iexact H1
  isplitl [Ha0]; · iexact Ha0
  iexact Ha1

theorem leftP_run (κ : GSem nD τ sig → ℕ) (i : Fin 16) (Kt : PUnit → sProp 𝕄) :
    iprop((invs (bytesOf K V) κ ∗ ∃ W, owes (c : Thread nD τ) 0 W)
        ∗ (sentRow c i ∗ sndPos c i 0)
        ∗ (iprop((invs (bytesOf K V) κ ∗ ∃ W, owes (c : Thread nD τ) 0 W)
            ∗ (bytesAny c i ∗ sndPos c i (0 + 1))) -∗ Kt ⟨⟩))
      ⊢ WP c (leftP (srcM 0) (srcW 0) (srcM 1) (srcW 1) (dstM 0) (dstW 0) (dstM 1) (dstW 1) (sndS 0) (sndS 1) i) Kt := by
  show _ ⊢ WP c (waitRow (sndS 0) (dstM 0) (dstW 0) (srcM 0) (srcW 0) i >>= fun _ => waitRow (sndS 1) (dstM 1) (dstW 1) (srcM 1) (srcW 1) i) Kt
  unfold WP
  rw [wp_bind]
  iintro ⟨⟨#HI, ⟨%W, HO⟩⟩, ⟨⟨Hc0, Hc1⟩, ⟨Ha0, Ha1⟩⟩, Hk⟩
  iapply (waitRow_run c (bytesOf K V) κ (i, 0, 0) (sndS 0) i rfl (dstM 0) (dstW 0) (srcM 0) (srcW 0) rfl W _)
  isplitr; · iexact HI
  isplitl [Hc0]; · iexact Hc0
  isplitl [HO]; · iexact HO
  isplitl [Ha0]; · iexact Ha0
  iintro ⟨⟨%W', HO⟩, Ha0, Hx⟩
  ihave H0 := (Entails.of_eq (payload_snd (bytesOf K V) c 0 i ())) $$ Hx
  iapply (waitRow_run c (bytesOf K V) κ (i, 1, 0) (sndS 1) i rfl (dstM 1) (dstW 1) (srcM 1) (srcW 1) rfl W' _)
  isplitr; · iexact HI
  isplitl [Hc1]; · iexact Hc1
  isplitl [HO]; · iexact HO
  isplitl [Ha1]; · iexact Ha1
  iintro ⟨HO, Ha1, Hx⟩
  ihave H1 := (Entails.of_eq (payload_snd (bytesOf K V) c 1 i ())) $$ Hx
  iapply Hk
  isplitl [HO]
  · isplitr; · iexact HI
    iexact HO
  isplitl [H0 H1]
  · isplitl [H0]; · iexists _; iexact H0
    iexists _; iexact H1
  isplitl [Ha0]; · iexact Ha0
  iexact Ha1

end

/-! ## The counters of a device, row by row -/

theorem ctr_rows (Φ : Ctr → sProp 𝕄) :
    bigSep Finset.univ Φ = bigSep Finset.univ fun i : Fin 16 => iprop((Φ (i, 0, 0) ∗ Φ (i, 0, 1)) ∗ (Φ (i, 1, 0) ∗ Φ (i, 1, 1))) := by
  rw [bigSep_univ_prod]
  refine bigSep_congr fun i _ => ?_
  rw [bigSep_univ_prod, bigSep_fin_two, bigSep_fin_two, bigSep_fin_two]
  rfl

/-- Rows of two lists side by side. -/
theorem bigSepL_zip (Φ Ψ : Fin 16 → sProp 𝕄) : ∀ l : List (Fin 16),
    iprop(bigSepL l Φ ∗ bigSepL l Ψ) ⊢ bigSepL l fun i => iprop(Φ i ∗ Ψ i)
  | [] => by
    show _ ⊢ (iprop(emp) : sProp 𝕄)
    iintro -; iempintro
  | i :: l => by
    rw [bigSepL_cons', bigSepL_cons', bigSepL_cons']
    iintro ⟨⟨H1, H2⟩, ⟨H3, H4⟩⟩
    isplitl [H1 H3]
    · isplitl [H1]; · iexact H1
      iexact H3
    iapply (bigSepL_zip Φ Ψ l)
    isplitl [H2]; · iexact H2
    iexact H4

/-- Every counter of the device closed at zero. -/
theorem close_all (B : Bytes F) (κ : GSem nD τ sig → ℕ) (c : Dev nD) :
    iprop(invs B κ ∗ atPos ER (barCell c) (0 + 1) ∅ 0 ∗ (bigSep Finset.univ fun i => rcvPos (F := F) c i (0 + 1)) ∗ (bigSep Finset.univ fun i => sndPos (F := F) c i (0 + 1)))
      ⊢ (|={Set.univ}=> iprop(semVal (barCell c) 0 ∗ bigSep Finset.univ fun k : Ctr => semVal (ctrCell c k) 0) : sProp 𝕄) := by
  iintro ⟨#HI, Hb, Hr, Hs⟩
  imod (close B (κ (barCell c)) (barCell c)) $$ [Hb] with Hb0
  · isplitr; · iapply (inv_bar B κ c); iexact HI
    iexact Hb
  have hall : iprop(invs B κ ∗ bigSep Finset.univ fun k : Ctr => atPos ER (ctrCell c k) (0 + 1) ∅ 0)
      ⊢ (|={Set.univ}=> bigSep Finset.univ fun k : Ctr => semVal (ctrCell c k) 0 : sProp 𝕄) := by
    refine (bigSep_with_persistent (Ψ := fun k : Ctr => iprop(|={Set.univ}=> semVal (ctrCell c k) 0)) fun k _ => ?_).trans (bigSep_fupd _ _)
    iintro ⟨#HI, Hk⟩
    iapply (close B (κ (ctrCell c k)) (ctrCell c k))
    isplitr; · iapply (inv_ctr B κ c k); iexact HI
    iexact Hk
  have hrows : iprop((bigSep Finset.univ fun i => rcvPos (F := F) c i (0 + 1)) ∗ (bigSep Finset.univ fun i => sndPos (F := F) c i (0 + 1)))
      ⊢ bigSep Finset.univ fun k : Ctr => (atPos ER (ctrCell c k) (0 + 1) ∅ 0 : sProp 𝕄) := by
    rw [ctr_rows]
    have h (i : Fin 16) : (iprop(rcvPos c i (0 + 1) ∗ sndPos c i (0 + 1)) : sProp 𝕄)
        ⊢ iprop((atPos ER (sndCell c 0 i) (0 + 1) ∅ 0 ∗ atPos ER (rcvCell c 0 i) (0 + 1) ∅ 0)
          ∗ (atPos ER (sndCell c 1 i) (0 + 1) ∅ 0 ∗ atPos ER (rcvCell c 1 i) (0 + 1) ∅ 0)) := by
      iintro ⟨⟨H1, H2⟩, ⟨H3, H4⟩⟩
      isplitl [H1 H3]
      · isplitl [H3]; · iexact H3
        iexact H1
      isplitl [H4]; · iexact H4
      iexact H2
    exact Idealize.ShloMosaic.Smoke.bigSep_pair.trans (bigSep_mono fun i _ => h i)
  imod hall $$ [Hr Hs] with Hk
  · isplitr; · iexact HI
    iapply hrows
    isplitl [Hr]; · iexact Hr
    iexact Hs
  imodintro
  isplitl [Hb0]; · iexact Hb0
  iexact Hk

/-! ## The whole body -/

/-- What a device holds before the body: the exchange opened, the credits, its operands, every row it writes. -/
def bodyPre (κ : GSem nD τ sig → ℕ) (c : Dev nD) : sProp 𝕄 :=
  iprop((opened (bytesOf K V) κ c ∗ credits c ∗ levAts L lv ∗ ∃ W, owes (c : Thread nD τ) (O₀ c) W)
    ∗ (qAt c (Q c) ∗ kAt c (K c) ∗ vAt c (V c))
    ∗ (bigSep Finset.univ fun i => oAny (F := F) c i)
    ∗ (∃ X, nAt c X) ∗ (bigSep Finset.univ fun i => bytesAny (F := F) c i) ∗ (bigSep Finset.univ fun i => landAny (F := F) c i)
    ∗ (bigSep Finset.univ fun i => lAny (F := F) c i))

/-- What it holds after: every counter back at zero, its operands, the rows of the result, the rest at contents not chosen. -/
def bodyPost (c : Dev nD) : sProp 𝕄 :=
  iprop((semVal (barCell c) 0 ∗ (bigSep Finset.univ fun k : Ctr => semVal (ctrCell c k) 0) ∗ ∃ W, owes (c : Thread nD τ) 0 W)
    ∗ (qAt c (Q c) ∗ kAt c (K c) ∗ vAt c (V c))
    ∗ (bigSep Finset.univ fun i => oRow c i (outRow Q K V c i))
    ∗ (∃ X, nAt c X) ∗ (bigSep Finset.univ fun i => bytesAny (F := F) c i) ∗ (bigSep Finset.univ fun i => landAny (F := F) c i)
    ∗ (bigSep Finset.univ fun i => lAny (F := F) c i))

/-- The body at the kernel's buffers. -/
abbrev bodyAt : KP F :=
  bodyP qM kM vM oM nM (Memref.isWhole_whole _) (srcM 0) (srcW 0) (srcM 1) (srcW 1) (dstM 0) (dstW 0) (dstM 1) (dstW 1) lM (sndS 0) (rcvS 0) (sndS 1) (rcvS 1)

theorem pos_rows (c : Dev nD) : bigSep Finset.univ (posRow (F := F) c)
    ⊢ iprop((bigSep Finset.univ fun i => sndPos (F := F) c i 0) ∗ bigSep Finset.univ fun i => rcvPos (F := F) c i 0) := by
  have h (i : Fin 16) : posRow (F := F) c i ⊢ iprop(sndPos c i 0 ∗ rcvPos c i 0) := by
    unfold posRow
    iintro ⟨⟨H1, H2⟩, ⟨H3, H4⟩⟩
    isplitl [H1 H3]
    · isplitl [H1]; · iexact H1
      iexact H3
    isplitl [H2]; · iexact H2
    iexact H4
  exact (bigSep_mono fun i _ => h i).trans Idealize.ShloMosaic.Smoke.bigSep_unpair

/-- What a device pays its peer's barrier with. -/
theorem bar_rows (c : Dev nD) : iprop((bigSep Finset.univ fun i => landAny (F := F) c i) ∗ bigSep Finset.univ (hitRow (F := F) c))
    ⊢ bigSep Finset.univ (barRow (F := F) c) := by
  have h (i : Fin 16) : (iprop(landAny c i ∗ hitRow c i) : sProp 𝕄) ⊢ barRow c i := by
    unfold hitRow barRow
    iintro ⟨⟨H1, H2⟩, ⟨⟨-, #H3⟩, ⟨-, #H4⟩⟩⟩
    isplitl [H1]; · iexact H1
    isplitl [H2]; · iexact H2
    isplitr; · iexact H3
    iexact H4
  exact Idealize.ShloMosaic.Smoke.bigSep_pair.trans (bigSep_mono fun i _ => h i)

instance hitRows_persistent (c : Dev nD) : BI.Persistent (bigSep Finset.univ (hitRow (F := F) c)) := by infer_instance

/-- Two families over the rows, and the first row of each apart. -/
theorem first_row (Φ : Fin 16 → sProp 𝕄) : bigSep Finset.univ Φ ⊢ iprop(Φ 0 ∗ bigSepL rest Φ) := by
  rw [rows_eq, bigSepL_cons']
theorem first_row' (Φ : Fin 16 → sProp 𝕄) : iprop(Φ 0 ∗ bigSepL rest Φ) ⊢ bigSep Finset.univ Φ := by
  rw [rows_eq]; exact Entails.of_eq (bigSepL_cons' 0 rest Φ).symm

theorem triple (Φ Ψ Θ : Fin 16 → sProp 𝕄) : iprop(bigSep Finset.univ Φ ∗ bigSep Finset.univ Ψ ∗ bigSep Finset.univ Θ)
    ⊢ bigSep Finset.univ fun i => iprop(Φ i ∗ Ψ i ∗ Θ i) :=
  (sep_mono_right Idealize.ShloMosaic.Smoke.bigSep_pair).trans Idealize.ShloMosaic.Smoke.bigSep_pair

theorem body_run (κ : GSem nD τ sig → ℕ) (c : Dev nD) (Kt : PUnit → sProp 𝕄) :
    iprop(bodyPre Q K V κ c ∗ (bodyPost Q K V c -∗ Kt ⟨⟩)) ⊢ WP c bodyAt Kt := by
  unfold bodyAt bodyP
  simp only [Prog.lift, Prog.bind_op, Prog.bind_ret, wp_deviceId, semSignalWord, semWaitWord]
  refine BIBase.Entails.trans ?_ (wp_fupd _ _ _ _ _)
  unfold bodyPre opened credits
  iintro ⟨⟨⟨⟨#HI, HatB, Hpos, #Hhit, #HrP, HtP, Hpay⟩, ⟨HcB, Hcr⟩, #Hlev, ⟨%W, HO⟩⟩, ⟨HQ, HK, HV⟩, Ho, Hn, Hs, Hd, Hl⟩, Hk⟩
  ihave Hpp := (pos_rows c) $$ Hpos
  icases Hpp with ⟨HpS, HpR⟩
  iapply (Rounds.wp_signal 𝒱₀ ER (talkRd (bytesOf K V)) (c : Thread nD τ) none (dst := (peerOf c : Thread nD τ)) (sem := barM.sem) (r := 0) (d := ()) (κ := κ (barCell (peerOf c)))
      (by rw [duties_bar]; exact Finset.mem_singleton_self _) (amount_bar (bytesOf K V) (peerOf c) ()) () (owedL c rows) rfl)
    $$ [HO HtP Hd]
  · isplitr; · iapply (inv_bar (bytesOf K V) κ (peerOf c)); iexact HI
    isplitl [HO]; · iexact HO
    isplitl [HtP]; · iexact HtP
    isplitl [Hd]
    · rw [payload_bar]; unfold barPay; rw [peer_peer]
      iapply (bar_rows c)
      isplitl [Hd]; · iexact Hd
      iexact Hhit
    · iexact HrP
  iintro HO
  rw [wp_bind]
  ihave Hs' := (first_row (fun i => bytesAny c i)) $$ Hs
  icases Hs' with ⟨Hs0, Hs⟩
  iapply (quantP_run K V c 0 _)
  isplitl [HK HV]
  · isplitl [HK]; · iexact HK
    iexact HV
  isplitl [Hs0]; · iexact Hs0
  iintro ⟨HKV, Hs0⟩
  iapply (Rounds.wp_wait_rest_token 𝒱₀ ER (talkRd (bytesOf K V)) (c : Thread nD τ) none (κ := κ (barCell c))
      (wpE_semWait_eq 𝒱₀ (c : Thread nD τ) none Set.univ) (Set.mem_univ _) () (O := owedL c rows) (W := W) (R := 0) (m := 0) (T := ∅)
      ((Nat.zero_add 1).trans (expect_bar (bytesOf K V) c).symm)) $$ [HcB HO HatB]
  · isplitr; · iapply (inv_bar (bytesOf K V) κ c); iexact HI
    isplitl [HcB]; · iexact HcB
    isplitl [HO]; · iexact HO
    isplitr; · iapply (mayWait_bar c); iexact Hlev
    iexact HatB
  iintro ⟨HO, HatB, -, Hb⟩
  ihave Hb' := (Entails.of_eq (rest_bar (bytesOf K V) c)) $$ Hb
  unfold barPay
  ihave Hb'' := (first_row (barRow (peerOf c))) $$ Hb'
  icases Hb'' with ⟨Hb0, Hb⟩
  ihave Hh' := (first_row (hitRow c)) $$ Hhit
  icases Hh' with ⟨#Hh0, Hh⟩
  ihave Hp' := (first_row (payRow c)) $$ Hpay
  icases Hp' with ⟨Hp0, Hp⟩
  rw [wp_bind]
  iapply (sendP_run K V c κ 0 rest _)
  isplitl [HO]
  · isplitr; · iexact HI
    iexists _; iexact HO
  isplitl [Hs0 Hb0 Hp0]
  · isplitl [Hs0]; · iexact Hs0
    isplitl [Hb0]; · iexact Hb0
    isplitr; · iexact Hh0
    iexact Hp0
  iintro ⟨HO, Hc0⟩
  rw [wp_bind]
  iapply (each_run c _ (fun l => iprop(invs (bytesOf K V) κ ∗ (kAt c (K c) ∗ vAt c (V c)) ∗ ∃ W, owes (c : Thread nD τ) (owedL c l) W))
    (fun i => iprop((bytesAny c i ∗ hitRow c i ∗ payRow c i) ∗ barRow (peerOf c) i)) (fun i => sentRow c i)
    (fun i l Kt => shipP_run K V c κ i l Kt) rest _)
  isplitl [HKV HO]
  · isplitr; · iexact HI
    isplitl [HKV]; · iexact HKV
    iexact HO
  isplitl [Hs Hh Hp Hb]
  · iapply (bigSepL_zip (fun i => iprop(bytesAny c i ∗ hitRow c i ∗ payRow c i)) (fun i => barRow (peerOf c) i) rest)
    isplitl [Hs Hh Hp]
    · iapply (bigSepL_zip (fun i => bytesAny c i) (fun i => iprop(hitRow c i ∗ payRow c i)) rest)
      isplitl [Hs]; · iexact Hs
      iapply (bigSepL_zip (fun i => hitRow c i) (fun i => payRow c i) rest)
      isplitl [Hh]; · iexact Hh
      iexact Hp
    iexact Hb
  iintro ⟨⟨-, ⟨HK, HV⟩, ⟨%W1, HO⟩⟩, Hc⟩
  ihave Hsent := (first_row' (fun i => sentRow c i)) $$ [Hc0 Hc]
  · isplitl [Hc0]; · iexact Hc0
    iexact Hc
  rw [wp_bind]
  iapply (queryP_run Q c _)
  isplitl [HQ]; · iexact HQ
  isplitl [Hn]; · iexact Hn
  iintro ⟨HQ, Hn⟩
  rw [wp_bind]
  iapply (rows_run c _ iprop(qAt c (Q c) ∗ kAt c (K c) ∗ vAt c (V c)) (fun i => iprop(oAny c i ∗ lAny c i))
    (fun i => iprop(oRow c i (ownO Q K V c i) ∗ lRow c i (ownL Q K c i))) (fun i Kt => ownP_run Q K V c i Kt) _)
  isplitl [HQ HK HV]
  · isplitl [HQ]; · iexact HQ
    isplitl [HK]; · iexact HK
    iexact HV
  isplitl [Ho Hl]
  · iapply (Idealize.ShloMosaic.Smoke.bigSep_pair (Φ := fun i => oAny c i) (Ψ := fun i => lAny c i))
    isplitl [Ho]; · iexact Ho
    iexact Hl
  iintro ⟨HQKV, Hol⟩
  rw [wp_bind]
  iapply (rows_run c _ iprop(invs (bytesOf K V) κ ∗ nAt c (k0_pay40 (Q c)) ∗ ∃ W, owes (c : Thread nD τ) 0 W)
    (fun i => iprop((oRow c i (ownO Q K V c i) ∗ lRow c i (ownL Q K c i)) ∗ credRow c i ∗ rcvPos c i 0))
    (fun i => iprop(oRow c i (outRow Q K V c i) ∗ lAny c i ∗ landAny c i ∗ rcvPos c i (0 + 1))) (fun i Kt => otherP_run Q K V c κ i Kt) _)
  isplitl [Hn HO]
  · isplitr; · iexact HI
    isplitl [Hn]; · iexact Hn
    iexists W1; iexact HO
  isplitl [Hol Hcr HpR]
  · iapply (triple (fun i => iprop(oRow c i (ownO Q K V c i) ∗ lRow c i (ownL Q K c i))) (credRow c) (fun i => rcvPos c i 0))
    isplitl [Hol]; · iexact Hol
    isplitl [Hcr]; · iexact Hcr
    iexact HpR
  iintro ⟨⟨-, Hn, HO⟩, Hx⟩
  ihave Hx' := (Idealize.ShloMosaic.Smoke.bigSep_unpair (Φ := fun i => oRow c i (outRow Q K V c i)) (Ψ := fun i => iprop(lAny c i ∗ landAny c i ∗ rcvPos c i (0 + 1)))) $$ Hx
  icases Hx' with ⟨Ho, Hx⟩
  ihave Hx' := (Idealize.ShloMosaic.Smoke.bigSep_unpair (Φ := fun i => lAny c i) (Ψ := fun i => iprop(landAny c i ∗ rcvPos c i (0 + 1)))) $$ Hx
  icases Hx' with ⟨Hl, Hx⟩
  ihave Hx' := (Idealize.ShloMosaic.Smoke.bigSep_unpair (Φ := fun i => landAny c i) (Ψ := fun i => rcvPos c i (0 + 1))) $$ Hx
  icases Hx' with ⟨Hd, HpR⟩
  iapply (rows_run c _ iprop(invs (bytesOf K V) κ ∗ ∃ W, owes (c : Thread nD τ) 0 W)
    (fun i => iprop(sentRow c i ∗ sndPos c i 0)) (fun i => iprop(bytesAny c i ∗ sndPos c i (0 + 1))) (fun i Kt => leftP_run K V c κ i Kt) _)
  isplitl [HO]
  · isplitr; · iexact HI
    iexact HO
  isplitl [Hsent HpS]
  · iapply (Idealize.ShloMosaic.Smoke.bigSep_pair (Φ := fun i => sentRow c i) (Ψ := fun i => sndPos c i 0))
    isplitl [Hsent]; · iexact Hsent
    iexact HpS
  iintro ⟨⟨-, HO⟩, Hx⟩
  ihave Hx' := (Idealize.ShloMosaic.Smoke.bigSep_unpair (Φ := fun i => bytesAny c i) (Ψ := fun i => sndPos c i (0 + 1))) $$ Hx
  icases Hx' with ⟨Hs, HpS⟩
  imod (close_all (bytesOf K V) κ c) $$ [HatB HpR HpS] with ⟨Hb0, Hz⟩
  · isplitr; · iexact HI
    isplitl [HatB]; · iexact HatB
    isplitl [HpR]; · iexact HpR
    iexact HpS
  imodintro
  iapply Hk
  unfold bodyPost
  isplitl [Hb0 Hz HO]
  · isplitl [Hb0]; · iexact Hb0
    isplitl [Hz]; · iexact Hz
    iexact HO
  isplitl [HQKV]; · iexact HQKV
  isplitl [Ho]; · iexact Ho
  isplitl [Hn]; · iexists _; iexact Hn
  isplitl [Hs]; · iexact Hs
  isplitl [Hd]; · iexact Hd
  iexact Hl

end Cert.Attn

end
-- ==== Proof.Attn.Rows.lean ====
/- Whole buffers cut into their sixteen rows and put together again. -/
module

public import proofs.«01_k».proof.Proof.Attn.Run
public import proofs.«01_k».proof.Proof.Gen.KernelIdeal.Launch
public import Idealize.ShloMosaic.Lib.Ring

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The rows tile the buffer -/

theorem off_zero (i : Fin 16) (a : Fin 3) (h : a ≠ 0) : (![i.val, 0, 0] : Fin 3 → Nat) a = 0 := by
  match a, h with
  | 1, _ => rfl
  | 2, _ => rfl
theorem sizeR (a : Fin 3) (h : a ≠ 0) : S1x512x64.size a = S16x512x64.size a := by
  match a, h with
  | 1, _ => rfl
  | 2, _ => rfl
theorem sizeL (a : Fin 3) (h : a ≠ 0) : S1x512x1.size a = S16x512x1.size a := by
  match a, h with
  | 1, _ => rfl
  | 2, _ => rfl

theorem rowR_disj (i j : Fin 16) (h : i ≠ j) : Disjoint (rowR i).set (rowR j).set :=
  Idealize.ShloMosaic.Ring.lead_disjoint (s := S16x512x64) (0 : Fin 3) 1 (fun i : Fin 16 => ![i.val, 0, 0]) S1x512x64.size inbR (fun i => (Nat.one_mul _).symm) rfl i j h
theorem rowR_cov : (Finset.univ : Finset (Fin 16)).biUnion (fun i => (rowR i).set) = Finset.univ :=
  Idealize.ShloMosaic.Ring.lead_cover (s := S16x512x64) (0 : Fin 3) 1 (fun i : Fin 16 => ![i.val, 0, 0]) S1x512x64.size inbR (fun i => (Nat.one_mul _).symm) off_zero rfl sizeR rfl
theorem rowL_disj (i j : Fin 16) (h : i ≠ j) : Disjoint (rowL i).set (rowL j).set :=
  Idealize.ShloMosaic.Ring.lead_disjoint (s := S16x512x1) (0 : Fin 3) 1 (fun i : Fin 16 => ![i.val, 0, 0]) S1x512x1.size inbL (fun i => (Nat.one_mul _).symm) rfl i j h
theorem rowL_cov : (Finset.univ : Finset (Fin 16)).biUnion (fun i => (rowL i).set) = Finset.univ :=
  Idealize.ShloMosaic.Ring.lead_cover (s := S16x512x1) (0 : Fin 3) 1 (fun i : Fin 16 => ![i.val, 0, 0]) S1x512x1.size inbL (fun i => (Nat.one_mul _).symm) off_zero rfl sizeL rfl

/-- An index of the buffer, inside its row. -/
def inRow (x : S16x512x64.Idx) : S1x512x64.Idx := fun
  | 0 => ⟨0, by decide⟩
  | 1 => x 1
  | 2 => x 2
/-- The same for the denominators. -/
def inRowL (x : S16x512x1.Idx) : S1x512x1.Idx := fun
  | 0 => ⟨0, by decide⟩
  | 1 => x 1
  | 2 => x 2

/-- A buffer from its rows. -/
def unrow {α : Type} (X : Fin 16 → S1x512x64.Idx → α) : S16x512x64.Idx → α := fun x => X (x 0) (inRow x)
def unrowL {α : Type} (X : Fin 16 → S1x512x1.Idx → α) : S16x512x1.Idx → α := fun x => X (x 0) (inRowL x)

theorem rowR_emb (i : Fin 16) (j : S1x512x64.Idx) (a : Fin 3) : ((rowR i).emb j a : Nat) = (![i.val, 0, 0] : Fin 3 → Nat) a + j a :=
  ValueKit.rect_emb_unit_val (s := S16x512x64) ![i.val, 0, 0] S1x512x64.size (inbR i) j a
theorem rowL_emb (i : Fin 16) (j : S1x512x1.Idx) (a : Fin 3) : ((rowL i).emb j a : Nat) = (![i.val, 0, 0] : Fin 3 → Nat) a + j a :=
  ValueKit.rect_emb_unit_val (s := S16x512x1) ![i.val, 0, 0] S1x512x1.size (inbL i) j a

theorem emb_row (i : Fin 16) (j : S1x512x64.Idx) : (rowR i).emb j 0 = i :=
  Fin.ext ((rowR_emb i j 0).trans (by have h : (j 0 : Nat) < 1 := (j 0).isLt; show i.val + (j 0 : Nat) = i.val; omega))
theorem emb_inRow (i : Fin 16) (j : S1x512x64.Idx) : inRow ((rowR i).emb j) = j := by
  funext a
  match a with
  | 0 => exact Fin.ext (by have h : (j 0 : Nat) < 1 := (j 0).isLt; show 0 = (j 0 : Nat); omega)
  | 1 => exact Fin.ext ((rowR_emb i j 1).trans (Nat.zero_add _))
  | 2 => exact Fin.ext ((rowR_emb i j 2).trans (Nat.zero_add _))
theorem embL_row (i : Fin 16) (j : S1x512x1.Idx) : (rowL i).emb j 0 = i :=
  Fin.ext ((rowL_emb i j 0).trans (by have h : (j 0 : Nat) < 1 := (j 0).isLt; show i.val + (j 0 : Nat) = i.val; omega))
theorem embL_inRow (i : Fin 16) (j : S1x512x1.Idx) : inRowL ((rowL i).emb j) = j := by
  funext a
  match a with
  | 0 => exact Fin.ext (by have h : (j 0 : Nat) < 1 := (j 0).isLt; show 0 = (j 0 : Nat); omega)
  | 1 => exact Fin.ext ((rowL_emb i j 1).trans (Nat.zero_add _))
  | 2 => exact Fin.ext ((rowL_emb i j 2).trans (Nat.zero_add _))

theorem unrow_row {α : Type} (X : Fin 16 → S1x512x64.Idx → α) (i : Fin 16) : (fun j => unrow X ((rowR i).emb j)) = X i := by
  funext j; show X ((rowR i).emb j 0) (inRow ((rowR i).emb j)) = X i j
  rw [emb_row, emb_inRow]
theorem unrowL_row {α : Type} (X : Fin 16 → S1x512x1.Idx → α) (i : Fin 16) : (fun j => unrowL X ((rowL i).emb j)) = X i := by
  funext j; show X ((rowL i).emb j 0) (inRowL ((rowL i).emb j)) = X i j
  rw [embL_row, embL_inRow]

/-! ## Owning a buffer, and owning its rows -/

section Own
variable (c : Dev nD)

section
variable {e : EltTy} (m : Memref sig .tc .vmem S16x512x64 e)

abbrev rowOwn (i : Fin 16) (X : Vec F S1x512x64 e) : sProp 𝕄 := owns (c : Thread nD τ) (m.slice (rowR i) (fun _ => rfl)) fullShare X

theorem rows_split : iprop(∃ X : Vec F S16x512x64 e, owns (c : Thread nD τ) m fullShare X)
    ⊢ (bigSep Finset.univ fun i => iprop(∃ X, rowOwn c m i X) : sProp 𝕄) := by
  iintro ⟨%X, H⟩
  ihave H' := (owns_rects (c : Thread nD τ) m fullShare rowR (fun _ _ => rfl) rowR_disj rowR_cov X) $$ H
  have h (i : Fin 16) : (rowOwn c m i (fun j => X ((rowR i).emb j)) : sProp 𝕄) ⊢ iprop(∃ X, rowOwn c m i X) := by
    iintro H; iexists _; iexact H
  have h' : bigSep Finset.univ (fun i => (rowOwn c m i (fun j => X ((rowR i).emb j)) : sProp 𝕄)) ⊢ bigSep Finset.univ fun i => iprop(∃ X, rowOwn c m i X) :=
    bigSep_mono fun i _ => h i
  iapply h'; iexact H'

theorem rows_join_at (X : Fin 16 → Vec F S1x512x64 e) : (bigSep Finset.univ fun i => rowOwn c m i (X i))
    ⊢ (owns (c : Thread nD τ) m fullShare (unrow X) : sProp 𝕄) := by
  have h := owns_of_rects (Ix := Unit) (Name := ℕ) (U := UU) (Lvl := ℕ) (c : Thread nD τ) m fullShare rowR (fun _ _ => rfl) rowR_disj rowR_cov (unrow X)
  refine BIBase.Entails.trans (Entails.of_eq (bigSep_congr fun i _ => ?_)) h
  rw [unrow_row]

theorem rows_join : (bigSep Finset.univ fun i => iprop(∃ X, rowOwn c m i X))
    ⊢ (iprop(∃ X : Vec F S16x512x64 e, owns (c : Thread nD τ) m fullShare X) : sProp 𝕄) := by
  refine (bigSep_exists_pi Finset.univ _).trans ?_
  iintro ⟨%X, H⟩
  ihave H' := (rows_join_at c m X) $$ H
  iexists _; iexact H'
end

theorem lrows_split : iprop(∃ X : Vec F S16x512x1 .f32, owns (c : Thread nD τ) lM fullShare X)
    ⊢ (bigSep Finset.univ fun i => lAny (F := F) c i : sProp 𝕄) := by
  iintro ⟨%X, H⟩
  ihave H' := (owns_rects (c : Thread nD τ) lM fullShare rowL (fun _ _ => rfl) rowL_disj rowL_cov X) $$ H
  have h (i : Fin 16) : (lRow c i (fun j => X ((rowL i).emb j)) : sProp 𝕄) ⊢ lAny c i := by
    iintro H; iexists _; iexact H
  have h' : bigSep Finset.univ (fun i => (lRow c i (fun j => X ((rowL i).emb j)) : sProp 𝕄)) ⊢ bigSep Finset.univ fun i => lAny c i :=
    bigSep_mono fun i _ => h i
  iapply h'; iexact H'

theorem lrows_join : (bigSep Finset.univ fun i => lAny (F := F) c i)
    ⊢ (iprop(∃ X : Vec F S16x512x1 .f32, owns (c : Thread nD τ) lM fullShare X) : sProp 𝕄) := by
  have hne : ∀ e, Nonempty (Elt F e) := fun e => inferInstance
  haveI : Nonempty (Vec F S1x512x1 .f32) := ⟨fun _ => (hne .f32).some⟩
  refine (bigSep_exists_pi Finset.univ _).trans ?_
  iintro ⟨%X, H⟩
  have h := owns_of_rects (Ix := Unit) (Name := ℕ) (U := UU) (Lvl := ℕ) (c : Thread nD τ) lM fullShare rowL (fun _ _ => rfl) rowL_disj rowL_cov (unrowL X)
  have h' : bigSep Finset.univ (fun i => (lRow c i (X i) : sProp 𝕄)) ⊢ owns (c : Thread nD τ) lM fullShare (unrowL X) := by
    refine BIBase.Entails.trans (Entails.of_eq (bigSep_congr fun i _ => ?_)) h
    rw [unrowL_row]
  ihave H' := h' $$ H
  iexists _; iexact H'

/-! ## The buffers no window stages -/

theorem whole_in (b : Ref sig .tc) : iprop(∃ f : Buf (Elt F) ((c : Thread nD τ).loc b), ((c : Thread nD τ).loc b) ↦{fullShare} f)
    ⊢ (iprop(∃ X : b.ty.Contents (Elt F), owns (c : Thread nD τ) (Memref.whole b) fullShare X) : sProp 𝕄) := by
  iintro ⟨%f, H⟩
  iexists f
  iapply (Entails.of_eq (owns_whole_eq (c : Thread nD τ) b fullShare f).symm)
  iexists f; isplitr; · ipureintro; rfl
  iexact H
theorem whole_out (b : Ref sig .tc) : iprop(∃ X : b.ty.Contents (Elt F), owns (c : Thread nD τ) (Memref.whole b) fullShare X)
    ⊢ (iprop(∃ f : Buf (Elt F) ((c : Thread nD τ).loc b), ((c : Thread nD τ).loc b) ↦{fullShare} f) : sProp 𝕄) := by
  iintro ⟨%X, H⟩
  ihave H' := (Entails.of_eq (owns_whole_eq (c : Thread nD τ) b fullShare X)) $$ H
  icases H' with ⟨%f, -, H⟩
  iexists f; iexact H

abbrev scratch (c : Dev nD) : sProp 𝕄 := Pipeline.scopedRest (Ix := Unit) (Name := ℕ) (U := UU) (Lvl := ℕ) (Val := Elt F) spec0 c

/-- The rows of the scratch buffers. -/
abbrev scratchRows (c : Dev nD) : sProp 𝕄 :=
  iprop((∃ X, nAt (F := F) c X) ∗ (bigSep Finset.univ fun i => bytesAny (F := F) c i) ∗ (bigSep Finset.univ fun i => landAny (F := F) c i)
    ∗ (bigSep Finset.univ fun i => lAny (F := F) c i))

theorem scratch_split : scratch (F := F) c ⊢ scratchRows c := by
  unfold scratch scratchRows
  rw [scopedRest0_eq]
  iintro ⟨H0, H1, H2, H3, H4, H5⟩
  isplitl [H0]; · iapply (whole_in c cc0_scratch0); iexact H0
  isplitl [H1 H2]
  · iapply (Idealize.ShloMosaic.Smoke.bigSep_pair (Φ := fun i => rowAny c (srcM 0) i) (Ψ := fun i => rowAny c (srcM 1) i))
    isplitl [H1]
    · iapply (rows_split c (srcM 0)); iapply (whole_in c cc0_scratch1); iexact H1
    · iapply (rows_split c (srcM 1)); iapply (whole_in c cc0_scratch2); iexact H2
  isplitl [H3 H4]
  · iapply (Idealize.ShloMosaic.Smoke.bigSep_pair (Φ := fun i => rowAny c (dstM 0) i) (Ψ := fun i => rowAny c (dstM 1) i))
    isplitl [H3]
    · iapply (rows_split c (dstM 0)); iapply (whole_in c cc0_scratch3); iexact H3
    · iapply (rows_split c (dstM 1)); iapply (whole_in c cc0_scratch4); iexact H4
  iapply (lrows_split c); iapply (whole_in c cc0_scratch5); iexact H5

theorem scratch_join : scratchRows (F := F) c ⊢ scratch c := by
  unfold scratch scratchRows
  rw [scopedRest0_eq]
  iintro ⟨H0, H12, H34, H5⟩
  ihave H12' := (Idealize.ShloMosaic.Smoke.bigSep_unpair (Φ := fun i => rowAny c (srcM 0) i) (Ψ := fun i => rowAny c (srcM 1) i)) $$ H12
  icases H12' with ⟨H1, H2⟩
  ihave H34' := (Idealize.ShloMosaic.Smoke.bigSep_unpair (Φ := fun i => rowAny c (dstM 0) i) (Ψ := fun i => rowAny c (dstM 1) i)) $$ H34
  icases H34' with ⟨H3, H4⟩
  isplitl [H0]; · iapply (whole_out c cc0_scratch0); iexact H0
  isplitl [H1]; · iapply (whole_out c cc0_scratch1); iapply (rows_join c (srcM 0)); iexact H1
  isplitl [H2]; · iapply (whole_out c cc0_scratch2); iapply (rows_join c (srcM 1)); iexact H2
  isplitl [H3]; · iapply (whole_out c cc0_scratch3); iapply (rows_join c (dstM 0)); iexact H3
  isplitl [H4]; · iapply (whole_out c cc0_scratch4); iapply (rows_join c (dstM 1)); iexact H4
  iapply (whole_out c cc0_scratch5); iapply (lrows_join c); iexact H5

end Own

end Cert.Attn

end
-- ==== Proof.Attn.Region.lean ====
/- The kernel as one region of the program: what it enters with, what it leaves, and its body's obligation. -/
module

public import proofs.«01_k».proof.Proof.Attn.Rows
public import proofs.«01_k».proof.Proof.Gen.KernelIdeal.Points
public import proofs.«01_k».proof.Proof.Gen.KernelIdeal.Frame

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The buffers at the boundaries -/

/-- As launched; after the operations before the kernel; -/
def U₀ (c : Dev nD) : Valuation τ sig (Elt F) := fun b => m (c, b)
def U₁ (c : Dev nD) : Valuation τ sig (Elt F) := StableHlo.after hostOps0 (U₀ m c)
/-- The kernel's operands. -/
def qArr : Arr F := fun c => U₁ m c (Proc.devRef .tc main_v2)
def kArr : Arr F := fun c => U₁ m c (Proc.devRef .tc main_v4)
def vArr : Arr F := fun c => U₁ m c (Proc.devRef .tc main_v6)
/-- The kernel's result. -/
def outBuf (c : Dev nD) : Vec F S16x512x64 .f32 := unrow (outRow (qArr m) (kArr m) (vArr m) c)
/-- After the kernel; after the operations behind it. -/
def U₂ (c : Dev nD) : Valuation τ sig (Elt F) := Function.update (U₁ m c) (Proc.devRef .tc main_v7) (outBuf m c)
def U₃ (c : Dev nD) : Valuation τ sig (Elt F) := StableHlo.after hostOps1 (U₂ m c)

theorem U₂_out (c : Dev nD) : U₂ m c (Proc.devRef .tc main_v7) = outBuf m c := Function.update_self _ _ _
theorem U₂_of_ne (c : Dev nD) (b : DevRef τ sig) (h : b ≠ Proc.devRef .tc main_v7) : U₂ m c b = U₁ m c b :=
  Function.update_of_ne h _ _

/-! ## The proof data -/

/-- The semaphores back at zero. -/
def zeros (c : Dev nD) : sProp 𝕄 := iprop(semVal (barCell c) 0 ∗ bigSep Finset.univ fun k : Ctr => semVal (ctrCell c k) 0)
/-- What enters the kernel. -/
def Xk (c : Dev nD) : sProp 𝕄 := iprop((∃ κ, opened (bytesOf (kArr m) (vArr m)) κ c) ∗ credits c ∗ levAts L lv)

def dat (c : Dev nD) : Dat τ (Elt F) Unit ℕ UU ℕ cfg0 c where
  A w := U₁ m c (Proc.devRef .tc (Pipeline.arrRef spec0 w))
  after := fun
    | 0, _ => qArr m c
    | 1, _ => kArr m c
    | 2, _ => vArr m c
    | 3, _ => outBuf m c
    | ⟨_ + 4, h⟩, _ => absurd h (Nat.not_lt.2 (Nat.le_add_left _ _))
  Φ t := if t.val = 0 then iprop(Xk m c ∗ scratch c ∗ ∃ r, prngReg c r) else iprop(zeros c ∗ scratch c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun
  | 0 => dat m
  | ⟨_ + 1, h⟩ => absurd h (Nat.not_lt.2 (Nat.le_add_left _ _))

theorem owed_zero (c : Dev nD) : (dat m c).owed 0 = O₀ c := by
  show (if ((0 : Fin (cfg0.N + 1)).val = 0) then O₀ c else 0) = O₀ c; exact if_pos rfl
theorem owed_first (c : Dev nD) : (dat m c).owed t0_0.castSucc = O₀ c := by
  show (if ((t0_0.castSucc : Fin (cfg0.N + 1)).val = 0) then O₀ c else 0) = O₀ c; exact if_pos rfl
theorem owed_succ (c : Dev nD) : (dat m c).owed t0_0.succ = 0 := by
  show (if ((t0_0.succ : Fin (cfg0.N + 1)).val = 0) then O₀ c else 0) = 0
  exact if_neg (by rw [Fin.val_succ]; omega)
theorem owed_last (c : Dev nD) : (dat m c).owed (Fin.last _) = 0 := by
  show (if ((Fin.last cfg0.N).val = 0) then O₀ c else 0) = 0
  rw [Fin.val_last, if_neg (by rw [show cfg0.N = 1 from N_0]; decide)]
/-- The kernel's invariant before its point, and after. -/
theorem phi_eq (c : Dev nD) (t : Fin (cfg0.N + 1)) : (dat m c).Φ t
    = if t.val = 0 then iprop(Xk m c ∗ scratch c ∗ ∃ r, prngReg c r) else iprop(zeros c ∗ scratch c ∗ ∃ r, prngReg c r) := rfl
theorem phi_first (c : Dev nD) : (dat m c).Φ t0_0.castSucc = iprop(Xk m c ∗ scratch c ∗ ∃ r, prngReg c r) := by
  rw [phi_eq]; exact if_pos rfl
theorem phi_zero (c : Dev nD) : (dat m c).Φ 0 = iprop(Xk m c ∗ scratch c ∗ ∃ r, prngReg c r) := by
  rw [phi_eq]; exact if_pos rfl
theorem phi_succ (c : Dev nD) : (dat m c).Φ t0_0.succ = iprop(zeros c ∗ scratch c ∗ ∃ r, prngReg c r) := by
  rw [phi_eq]; exact if_neg (by rw [Fin.val_succ]; omega)
theorem phi_last (c : Dev nD) : (dat m c).Φ (Fin.last _) = iprop(zeros c ∗ scratch c ∗ ∃ r, prngReg c r) := by
  rw [phi_eq]; exact if_neg (by rw [Fin.val_last, show cfg0.N = 1 from N_0]; decide)

theorem owesAt_intro {c : Dev nD} (t : Fin (cfg0.N + 1)) (O : CellTallies nD τ sig Unit) (h0 : (dat m c).owed t = O) (W : Waits sig Unit) :
    (owes (c : Thread nD τ) O W : sProp 𝕄) ⊢ ((dat m c).owesAt () t : sProp 𝕄) := by
  unfold Dat.owesAt Pipeline.owesWithin Dat.bound; rw [h0, show (dat m c).recorded t = Set.univ from rfl]
  iintro HO; iexists W; isplitr; · ipureintro; exact fun _ _ => Or.inl trivial
  iexact HO
theorem owesAt_elim {c : Dev nD} (t : Fin (cfg0.N + 1)) (O : CellTallies nD τ sig Unit) (h0 : (dat m c).owed t = O) :
    ((dat m c).owesAt () t : sProp 𝕄) ⊢ iprop(∃ W, owes (c : Thread nD τ) O W) := by
  unfold Dat.owesAt Pipeline.owesWithin; rw [h0]
  iintro ⟨%W, -, HO⟩; iexists W; iexact HO

/-! ## What the windows hold before the body -/

theorem idx0 (t : Fin cfg0.N) : win0_0.index t = ![0, 0, 0] := (by decide +kernel : ∀ t : Fin grid0.N, win0_0.index t = ![0, 0, 0]) t
theorem idx1 (t : Fin cfg0.N) : win0_1.index t = ![0, 0, 0] := (by decide +kernel : ∀ t : Fin grid0.N, win0_1.index t = ![0, 0, 0]) t
theorem idx2 (t : Fin cfg0.N) : win0_2.index t = ![0, 0, 0] := (by decide +kernel : ∀ t : Fin grid0.N, win0_2.index t = ![0, 0, 0]) t

theorem before_q (c : Dev nD) (d) : (dat m c).before 0 t0_0 d = qArr m c := by
  unfold Dat.before
  rw [if_pos (fetch0_0 t0_0)]
  funext y
  show qArr m c (((cfg0.win 0).blk t0_0).view.emb y) = qArr m c y
  congr 1
  blk_ext [idx0]
theorem before_k (c : Dev nD) (d) : (dat m c).before 1 t0_0 d = kArr m c := by
  unfold Dat.before
  rw [if_pos (fetch0_1 t0_0)]
  funext y
  show kArr m c (((cfg0.win 1).blk t0_0).view.emb y) = kArr m c y
  congr 1
  blk_ext [idx1]
theorem before_v (c : Dev nD) (d) : (dat m c).before 2 t0_0 d = vArr m c := by
  unfold Dat.before
  rw [if_pos (fetch0_2 t0_0)]
  funext y
  show vArr m c (((cfg0.win 2).blk t0_0).view.emb y) = vArr m c y
  congr 1
  blk_ext [idx2]

/-! ## The body's obligation -/

theorem out_join (c : Dev nD) : (bigSep Finset.univ fun i => oRow c i (outRow (qArr m) (kArr m) (vArr m) c i))
    ⊢ (owns (c : Thread nD τ) oM fullShare (outBuf m c) : sProp 𝕄) :=
  rows_join_at c oM (outRow (qArr m) (kArr m) (vArr m) c)

theorem body_ob (c : Dev nD) : BodyObligation (dat m c) defs₀ 𝒱₀ () Set.univ := fun t => by
  obtain rfl := fin_N0 t
  rw [bigSep_W0, bigSep_W0, phi_first, phi_succ]
  unfold Xk
  iintro ⟨⟨⟨⟨%κ, Ho⟩, Hc, #Hlev⟩, Hs, Hr⟩, HO, ⟨%d0, HQ⟩, ⟨%d1, HK⟩, ⟨%d2, HV⟩, ⟨%d3, HX⟩⟩
  ihave HO' := (owesAt_elim m _ (O₀ c) (owed_first m c)) $$ HO
  rw [before_q, before_k, before_v]
  ihave Hs' := (scratch_split c) $$ Hs
  unfold scratchRows
  icases Hs' with ⟨Hn, Hb, Hd, Hl⟩
  have hb : (cc0__body (F := F) qM (Memref.isWhole_whole _) kM (Memref.isWhole_whole _) vM (Memref.isWhole_whole _) oM (Memref.isWhole_whole _) nM (Memref.isWhole_whole _) (srcM 0) (srcW 0) (srcM 1) (srcW 1) (dstM 0) (dstW 0) (dstM 1) (dstW 1) lM (Memref.isWhole_whole _) (sndS 0) (rcvS 0) (sndS 1) (rcvS 1)) = bodyAt := body_eq ..
  have hbody : (defs₀ (F := F)) .tc cfg0.body (cfg0.bodyArgs t0_0 (cfg0.slots t0_0)) = bodyAt := hb
  rw [hbody]
  iapply (body_run (qArr m) (kArr m) (vArr m) κ c _)
  isplitr [Hr]
  · unfold bodyPre
    isplitl [Ho Hc HO']
    · isplitl [Ho]; · iexact Ho
      isplitl [Hc]; · iexact Hc
      isplitr; · iexact Hlev
      iexact HO'
    isplitl [HQ HK HV]
    · isplitl [HQ]; · iexact HQ
      isplitl [HK]; · iexact HK
      iexact HV
    isplitl [HX]
    · iapply (rows_split c oM)
      iexists _; iexact HX
    isplitl [Hn]; · iexact Hn
    isplitl [Hb]; · iexact Hb
    isplitl [Hd]; · iexact Hd
    iexact Hl
  unfold bodyPost zeros
  iintro ⟨⟨Hz0, Hz, ⟨%W, HO⟩⟩, ⟨HQ, HK, HV⟩, HX, Hn, Hb, Hd, Hl⟩
  isplitl [Hz0 Hz Hn Hb Hd Hl Hr]
  · isplitl [Hz0 Hz]
    · isplitl [Hz0]; · iexact Hz0
      iexact Hz
    isplitl [Hn Hb Hd Hl]
    · iapply (scratch_join c)
      isplitl [Hn]; · iexact Hn
      isplitl [Hb]; · iexact Hb
      isplitl [Hd]; · iexact Hd
      iexact Hl
    iexact Hr
  isplitl [HO]; · iapply (owesAt_intro m t0_0.succ 0 (owed_succ m c) W); iexact HO
  isplitl [HQ]; · iexact HQ
  isplitl [HK]; · iexact HK
  isplitl [HV]; · iexact HV
  iapply (out_join m c); iexact HX

/-! ## The kernel's counters opened -/

/-- What the launch kept for the kernel. -/
def Tk (c : Dev nD) : sProp 𝕄 := iprop((∃ κ, ghost (bytesOf (kArr m) (vArr m)) κ c) ∗ credits c)

theorem ownSems_eq (c : Dev nD) : (Pipeline.ownSems0 osem c : sProp 𝕄) = bigSep Finset.univ fun k : Ctr => semVal (ctrCell c k) 0 := rfl

theorem hopen (c : Dev nD) : iprop(Tk m c ∗ Pipeline.ownSems0 osem c ∗ levAts L lv) ⊢ (|={Set.univ}=> Xk m c : sProp 𝕄) := by
  have hall (κ : GSem nD τ sig → ℕ) : iprop(invs (bytesOf (kArr m) (vArr m)) κ ∗ bigSep Finset.univ fun k : Ctr => iprop(openTok ER (ctrCell c k) ∗ semVal (ctrCell c k) 0))
      ⊢ (|={Set.univ}=> bigSep Finset.univ fun k : Ctr => iprop(atPos ER (ctrCell c k) 0 ∅ 0 ∗ reached ER (ctrCell c k) 0) : sProp 𝕄) := by
    refine (bigSep_with_persistent (Ψ := fun k : Ctr => iprop(|={Set.univ}=> iprop(atPos ER (ctrCell c k) 0 ∅ 0 ∗ reached ER (ctrCell c k) 0))) fun k _ => ?_).trans (bigSep_fupd _ _)
    iintro ⟨#HI, Ht, Hv⟩
    iapply (Rounds.cell_open ER (talkRd (bytesOf (kArr m) (vArr m))) (g := ctrCell c k) (Set.mem_univ (κ (ctrCell c k))))
    isplitr; · iapply (inv_ctr (bytesOf (kArr m) (vArr m)) κ c k); iexact HI
    isplitl [Ht]; · iexact Ht
    iexact Hv
  have hpos : (bigSep Finset.univ fun k : Ctr => (atPos ER (ctrCell c k) 0 ∅ 0 : sProp 𝕄)) ⊢ bigSep Finset.univ (posRow (F := F) c) :=
    Entails.of_eq (ctr_rows _)
  have hhit : (bigSep Finset.univ fun k : Ctr => (reached ER (ctrCell c k) 0 : sProp 𝕄)) ⊢ bigSep Finset.univ (hitRow (F := F) c) :=
    Entails.of_eq (ctr_rows _)
  unfold Tk Xk
  rw [ownSems_eq]
  iintro ⟨⟨⟨%κ, Hg⟩, Hc⟩, Hos, #Hlev⟩
  unfold ghost
  icases Hg with ⟨#HI, HatB, Hopen, #HrP, HtP, Hpay⟩
  imod (hall κ) $$ [Hopen Hos] with Hx
  · isplitr; · iexact HI
    iapply (Idealize.ShloMosaic.Smoke.bigSep_pair (Φ := fun k : Ctr => (openTok ER (ctrCell c k) : sProp 𝕄)) (Ψ := fun k : Ctr => semVal (ctrCell c k) 0))
    isplitl [Hopen]; · iexact Hopen
    iexact Hos
  ihave Hx' := (Idealize.ShloMosaic.Smoke.bigSep_unpair (Φ := fun k : Ctr => (atPos ER (ctrCell c k) 0 ∅ 0 : sProp 𝕄)) (Ψ := fun k : Ctr => reached ER (ctrCell c k) 0)) $$ Hx
  icases Hx' with ⟨Hat, Hre⟩
  ihave Hhit := hhit $$ Hre
  imodintro
  isplitr [Hc]
  · iexists κ
    unfold opened
    isplitr; · iexact HI
    isplitl [HatB]; · iexact HatB
    isplitl [Hat]; · iapply hpos; iexact Hat
    isplitl [Hhit]; · iexact Hhit
    isplitr; · iexact HrP
    isplitl [HtP]; · iexact HtP
    iexact Hpay
  isplitl [Hc]; · iexact Hc
  iexact Hlev

/-! ## The region -/

/-- The arrays of the program; those the kernel's windows are on. -/
abbrev bufs : Finset (DevRef τ sig) := Pipeline.ucRefs τ sig
abbrev arrs : Finset (DevRef τ sig) := Pipeline.arrRefs (τ := τ) spec0

theorem arrs_sub : arrs ⊆ bufs := by decide
theorem out_mem : (Proc.devRef .tc main_v7 : DevRef τ sig) ∈ arrs := by decide

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem hin (c : Dev nD) : iprop(Pipeline.scopedRest (Pipeline.pin (pcfgs (F := F)) adm 0).spec c ∗ (∃ r, prngReg c r) ∗ StableHlo.held (c.tc : Thread nD τ) ∅ (U₁ m c) ∗ Xk m c)
    ⊢ (pdats m 0 c).Φ 0 := by
  rw [show (pdats m 0 c).Φ 0 = iprop(Xk m c ∗ scratch c ∗ ∃ r, prngReg c r) from phi_zero m c]
  iintro ⟨Hs, Hp, -, HX⟩
  isplitl [HX]; · iexact HX
  isplitl [Hs]; · iexact Hs
  iexact Hp

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r) ∗ StableHlo.held (c.tc : Thread nD τ) ∅ (U₂ m c) ∗ Pipeline.ownSems0 osem c ∗ semVal (barCell c) 0) := by
  rw [show (pdats m 0 c).Φ (Fin.last (Pipeline.pin (pcfgs (F := F)) adm 0).N) = iprop(zeros c ∗ scratch c ∗ ∃ r, prngReg c r) from phi_last m c]
  unfold zeros
  rw [ownSems_eq]
  iintro ⟨⟨Hb, Hk⟩, Hs, Hp⟩
  isplitl [Hs]; · iexact Hs
  isplitl [Hp]; · iexact Hp
  isplitr; · rw [show (StableHlo.held (c.tc : Thread nD τ) ∅ (U₂ m c) : sProp 𝕄) = BI.emp from BI.bigSep_empty]; iempintro
  isplitl [Hk]; · iexact Hk
  iexact Hb

theorem rcv_lev (c : Dev nD) (t : Fin ((Pipeline.pin (pcfgs (F := F)) adm 0).N + 1)) (g : GSem nD τ sig) (i : Unit) (h : 0 < (pdats m 0 c).owed t g i) :
    i ∈ L g ∧ (0 : ℕ) < lv g i := by
  have e : (pdats m 0 c).owed t = if t.val = 0 then O₀ c else 0 := rfl
  rw [e] at h
  split at h
  · rcases O₀_pos h with ⟨b, j, rfl⟩ | rfl
    · exact ⟨by rw [L_tc]; exact Finset.mem_singleton_self _, (lv_rcv _ b j).symm ▸ (by decide : 0 < 2)⟩
    · exact ⟨by rw [L_tc]; exact Finset.mem_singleton_self _, (lv_bar _).symm ▸ (by decide : 0 < 1)⟩
  · exact absurd h (Nat.lt_irrefl 0)

theorem lv_stage (c : Dev nD) (w : Fin 4) (s : Fin ((cfg0.win w).nbuf)) : lv ((c : Thread nD τ), .dma ((cfg0.win w).sem s)) () ≤ 0 := by
  unfold lv
  rw [if_neg (fun h => by cases h), if_neg]
  rintro ⟨b, i, h⟩
  exact osem_facts.disj (i, b, 1) w s h.symm

theorem arr_before (c : Dev nD) (w : Fin 4) : (dat m c).arrAt w 0 = U₁ m c (Proc.devRef .tc (Pipeline.arrRef spec0 w)) := rfl

theorem arr_after (c : Dev nD) (w : Fin 4) : (dat m c).arrAt w cfg0.N = U₂ m c (Proc.devRef .tc (Pipeline.arrRef spec0 w)) := by
  match w with
  | 0 => exact ((dat m c).arrAt_in 0 rfl _).trans (U₂_of_ne m c _ (by decide)).symm
  | 1 => exact ((dat m c).arrAt_in 1 rfl _).trans (U₂_of_ne m c _ (by decide)).symm
  | 2 => exact ((dat m c).arrAt_in 2 rfl _).trans (U₂_of_ne m c _ (by decide)).symm
  | 3 =>
    refine Eq.trans ?_ (U₂_out m c).symm
    exact (dat m c).arrAt_eq_of_after_last 3 t0_0 (by decide +kernel) (outBuf m c) (fun j => rfl)

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem osem_facts
    ∅ (bufs \ arrs) (Finset.empty_subset _) kitP rfl (fun c => (body_ob m c).loose)
    (fun _ => 0) O₀ (fun c => (owed_zero m c).trans (zero_add _).symm) (owed_last m) (fun _ => rfl)
    (fun c w => by unfold Dat.share; split <;> rfl)
    (U₁ m) (U₂ m)
    (fun c b hb => U₂_of_ne m c b fun h => (Finset.mem_sdiff.mp (Finset.mem_sdiff.mp hb).1).2 (h ▸ out_mem))
    (Tk m) (fun c => semVal (barCell c) 0) (Xk m) (fun c => semVal (barCell c) 0) (hopen m) (hin m) (hout m)
    (fun c => by iintro H; imodintro; iexact H)
    (fun _ => 0)
    ⟨fun c w s => by rw [L_tc]; exact Finset.mem_singleton_self _, fun c w s => lv_stage c w s, fun c t g i h => rcv_lev m c t g i h⟩
    (fun _ => iprop(emp)) (arr_before m) (arr_after m)

end Cert.Attn

end
-- ==== Proof.Attn.Launch.lean ====
/- The launch: every counter's record made, every right dealt to the device that uses it; and the whole run. -/
module

public import proofs.«01_k».proof.Proof.Attn.Region

@[expose] public section

noncomputable section

namespace Cert.Attn

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.Smoke (bigSep_pair bigSep_unpair)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The program's segments -/

/-- What rides beside the arrays up to the kernel, and behind it. -/
def R₀ (c : Dev nD) : sProp 𝕄 := iprop(Tk m c ∗ (∃ r, prngReg c r) ∗ ∃ W, owes (c : Thread nD τ) (O₀ c) W)
def R₁ (c : Dev nD) : sProp 𝕄 := iprop(semVal (barCell c) 0 ∗ ∃ W, owes (c : Thread nD τ) (0 : CellTallies nD τ sig Unit) W)

abbrev Host (F : FTy → Type) [FloatOps F] := Pipeline.HostSeg (Ix := Unit) (Name := ℕ) (U := UU) (Lvl := ℕ) (pcfgs (F := F)) defs₀ 𝒱₀ L lv

def seg0 : Host F := Pipeline.HostSeg.ofOps _ _ _ _ _ bufs hostOps0
  (fun op h => Pipeline.sub_ucRefs op ((List.forall_iff_forall_mem.mp hostOps0_sub) op h))
  (fun op h => (List.forall_iff_forall_mem.mp hostOps0_fresh) op h) (U₀ m) (R₀ m)
def seg1 : Host F := Pipeline.HostSeg.ofOps _ _ _ _ _ bufs hostOps1
  (fun op h => Pipeline.sub_ucRefs op ((List.forall_iff_forall_mem.mp hostOps1_sub) op h))
  (fun op h => (List.forall_iff_forall_mem.mp hostOps1_fresh) op h) (U₂ m) R₁

abbrev segs : List (Pipeline.Seg (pcfgs (F := F)) adm (pdats m) () defs₀ 𝒱₀ L lv) :=
  [.host (seg0 m), .region (reg0 m), .host (seg1 m)]

theorem main_eq (c : Dev nD) : main (F := F) c = Pipeline.Seg.run (segs m) :=
  main_segs adm (pdats m) () 𝒱₀ L lv (seg0 m) (seg1 m) (reg0 m) rfl rfl c

theorem reg0_pre (c : Dev nD) : iprop(StableHlo.held (c : Thread nD τ) bufs (U₁ m c) ∗ R₀ m c) ⊢ (reg0 m).pre c := by
  show _ ⊢ iprop(StableHlo.held (c.tc : Thread nD τ) arrs (U₁ m c) ∗ (∃ r, prngReg c r)
    ∗ (StableHlo.held (c.tc : Thread nD τ) (bufs \ arrs) (U₁ m c) ∗ emp) ∗ Tk m c ∗ ∃ Wd, owes (c : Thread nD τ) (0 + O₀ c) Wd)
  rw [zero_add, StableHlo.held_sub_split (c.tc : Thread nD τ) arrs_sub (U₁ m c)]
  unfold R₀
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg0_post (c : Dev nD) : (reg0 m).post c ⊢ iprop(StableHlo.held (c : Thread nD τ) bufs (U₂ m c) ∗ R₁ c) := by
  show iprop(StableHlo.held (c.tc : Thread nD τ) arrs (U₂ m c) ∗ (∃ r, prngReg c r)
    ∗ (StableHlo.held (c.tc : Thread nD τ) (bufs \ arrs) (U₂ m c) ∗ emp) ∗ semVal (barCell c) 0 ∗ ∃ Wd, owes (c : Thread nD τ) (0 : CellTallies nD τ sig Unit) Wd) ⊢ _
  rw [StableHlo.held_sub_split (c.tc : Thread nD τ) arrs_sub (U₂ m c)]
  unfold R₁
  iintro ⟨Ha, -, ⟨Hr, -⟩, Hb, HO⟩
  isplitl [Ha Hr]
  · isplitl [Ha]; · iexact Ha
    iexact Hr
  isplitl [Hb]; · iexact Hb
  iexact HO

/-! ## The counters at launch -/

theorem unscopedSems_eq (c : Dev nD) : (unscopedSems0 c : sProp 𝕄) = semVal (barCell c) 0 := by
  unfold unscopedSems0
  rw [show (Finset.univ.filter fun sm : SemLoc sig => ¬ sm.isScoped .tc) = {barS} from by decide +kernel, BI.bigSep_singleton]

def barEmb : Dev nD ↪ GSem nD τ sig := ⟨fun c => barCell c, fun _ _ h => congrArg (fun g : GSem nD τ sig => g.1.1) h⟩
def ctrEmb : Dev nD × Ctr ↪ GSem nD τ sig := ⟨fun x => ctrCell x.1 x.2, fun _ _ h => Prod.ext (ctr_inj h).1 (ctr_inj h).2⟩
abbrev barCells : Finset (GSem nD τ sig) := Finset.univ.map barEmb
abbrev ctrCells : Finset (GSem nD τ sig) := Finset.univ.map ctrEmb
/-- Every counter's one payment. -/
def tokEmb : GSem nD τ sig ↪ GSem nD τ sig × ℕ × Unit := ⟨fun g => (g, 0, ()), fun _ _ h => congrArg Prod.fst h⟩
def talkToks : Finset (GSem nD τ sig × ℕ × Unit) := (barCells ∪ ctrCells).map tokEmb

theorem disjoint_cells : Disjoint (barCells : Finset (GSem nD τ sig)) ctrCells := by
  rw [Finset.disjoint_left]
  rintro g h₁ h₂
  obtain ⟨c, -, rfl⟩ := Finset.mem_map.mp h₁
  obtain ⟨x, -, h⟩ := Finset.mem_map.mp h₂
  exact ctr_ne_bar x.1 c x.2 h

def u₀ : UU :=
  (initOf (Pipeline.cells (Pipeline.pin (pcfgs (F := F)) adm) cellOf_inj) (Pipeline.launchToks (Pipeline.pin (pcfgs (F := F)) adm) cellOf_inj),
    launchOf barCells ctrCells talkToks)

/-- A resource kept by device 0. -/
def atZero (X : sProp 𝕄) (c : Dev nD) : sProp 𝕄 := if c = 0 then X else iprop(emp)
theorem bigSep_atZero (X : sProp 𝕄) : bigSep Finset.univ (atZero X) = X := by
  rw [bigSep_univ_at _ (0 : Dev nD), bigSep_congr (s := Finset.univ.erase (0 : Dev nD)) (Ψ := fun _ => (BI.emp : sProp 𝕄))
      fun c hc => by unfold atZero; rw [if_neg (Finset.ne_of_mem_erase hc)]; rfl, BI.bigSep_emp_const]
  unfold atZero; rw [if_pos rfl]
  exact BI.equiv_iff.mp sep_emp
def G : Dev nD → sProp 𝕄 := atZero (BI.own (ER (launchOf barCells ctrCells talkToks)))

/-! ## What every device may consult, and what it alone keeps -/

abbrev BB : Bytes F := bytesOf (kArr m) (vArr m)

def records (κ : GSem nD τ sig → ℕ) : sProp 𝕄 :=
  iprop(invs (BB m) κ ∗ bigSep Finset.univ fun c : Dev nD => reached ER (barCell c) 0)
instance records_persistent (κ : GSem nD τ sig → ℕ) : BI.Persistent (records m κ) := by unfold records; infer_instance

def linear (c : Dev nD) : sProp 𝕄 :=
  iprop(atPos ER (barCell c) 0 ∅ 0 ∗ (bigSep Finset.univ fun k : Ctr => openTok ER (ctrCell c k))
    ∗ dutyTok ER (barCell (peerOf c)) 0 () ∗ bigSep Finset.univ (payRow (F := F) c))

theorem ghost_intro (κ : GSem nD τ sig → ℕ) (c : Dev nD) : iprop(records m κ ∗ linear c) ⊢ iprop(∃ κ, ghost (BB m) κ c) := by
  have h : (bigSep Finset.univ fun c : Dev nD => (reached ER (barCell c) 0 : sProp 𝕄)) ⊢ reached ER (barCell (peerOf c)) 0 :=
    bigSep_elim (Finset.mem_univ _)
  unfold records linear ghost
  iintro ⟨⟨#HI, #HR⟩, Hat, Ho, Ht, Hp⟩
  iexists κ
  isplitr; · iexact HI
  isplitl [Hat]; · iexact Hat
  isplitl [Ho]; · iexact Ho
  isplitr; · iapply h; iexact HR
  isplitl [Ht]; · iexact Ht
  iexact Hp

/-! ## The payments dealt: a device pays its own departures, and its peer's arrivals and barrier -/

abbrev sndTok (c : Dev nD) : sProp 𝕄 := bigSep Finset.univ fun i : Fin 16 => iprop(dutyTok ER (sndCell c 0 i) 0 () ∗ dutyTok ER (sndCell c 1 i) 0 ())
abbrev rcvTok (c : Dev nD) : sProp 𝕄 := bigSep Finset.univ fun i : Fin 16 => iprop(dutyTok ER (rcvCell c 0 i) 0 () ∗ dutyTok ER (rcvCell c 1 i) 0 ())

theorem ctr_toks (c : Dev nD) : (bigSep Finset.univ fun k : Ctr => (dutyTok ER (ctrCell c k) 0 () : sProp 𝕄)) ⊢ iprop(sndTok c ∗ rcvTok c) := by
  rw [ctr_rows]
  have h (i : Fin 16) : (iprop((dutyTok ER (sndCell c 0 i) 0 () ∗ dutyTok ER (rcvCell c 0 i) 0 ()) ∗ (dutyTok ER (sndCell c 1 i) 0 () ∗ dutyTok ER (rcvCell c 1 i) 0 ())) : sProp 𝕄)
      ⊢ iprop((dutyTok ER (sndCell c 0 i) 0 () ∗ dutyTok ER (sndCell c 1 i) 0 ()) ∗ (dutyTok ER (rcvCell c 0 i) 0 () ∗ dutyTok ER (rcvCell c 1 i) 0 ())) := by
    iintro ⟨⟨H1, H2⟩, ⟨H3, H4⟩⟩
    isplitl [H1 H3]
    · isplitl [H1]; · iexact H1
      iexact H3
    isplitl [H2]; · iexact H2
    iexact H4
  exact (bigSep_mono fun i _ => h i).trans bigSep_unpair

theorem pay_rows (c : Dev nD) : (iprop(sndTok c ∗ rcvTok (peerOf c)) : sProp 𝕄) ⊢ bigSep Finset.univ (payRow (F := F) c) := by
  have h (i : Fin 16) : (iprop((dutyTok ER (sndCell c 0 i) 0 () ∗ dutyTok ER (sndCell c 1 i) 0 ())
      ∗ (dutyTok ER (rcvCell (peerOf c) 0 i) 0 () ∗ dutyTok ER (rcvCell (peerOf c) 1 i) 0 ())) : sProp 𝕄) ⊢ payRow c i := by
    unfold payRow
    iintro ⟨⟨H1, H2⟩, ⟨H3, H4⟩⟩
    isplitl [H1 H3]
    · isplitl [H1]; · iexact H1
      iexact H3
    isplitl [H2]; · iexact H2
    iexact H4
  exact bigSep_pair.trans (bigSep_mono fun i _ => h i)

theorem toks_dealt : bigSep talkToks (fun x => (dutyTok ER x.1 x.2.1 x.2.2 : sProp 𝕄))
    ⊢ bigSep Finset.univ fun c : Dev nD => iprop(dutyTok ER (barCell (peerOf c)) 0 () ∗ bigSep Finset.univ (payRow (F := F) c)) := by
  have hall : (bigSep Finset.univ fun c : Dev nD => bigSep Finset.univ fun k : Ctr => (dutyTok ER (ctrCell c k) 0 () : sProp 𝕄))
      ⊢ bigSep Finset.univ fun c : Dev nD => bigSep Finset.univ (payRow (F := F) c) := by
    refine (bigSep_mono fun c _ => ctr_toks c).trans (bigSep_unpair.trans ?_)
    rw [bigSep_univ_equiv peerEquiv (fun c : Dev nD => (rcvTok c : sProp 𝕄))]
    exact bigSep_pair.trans (bigSep_mono fun c _ => pay_rows c)
  unfold talkToks
  rw [bigSep_map, BI.bigSep_union disjoint_cells, bigSep_map, bigSep_map, bigSep_univ_prod]
  refine BIBase.Entails.trans ?_ bigSep_pair
  refine BIClass.sep_mono (Entails.of_eq (bigSep_univ_equiv peerEquiv (fun c : Dev nD => (dutyTok ER (barCell c) 0 () : sProp 𝕄)))) hall

/-! ## The credit at launch -/

theorem rows_nodup : rows.Nodup := by decide
theorem mem_rows (i : Fin 16) : i ∈ rows := by revert i; decide

theorem owedL_bar (d c : Dev nD) (l : List (Fin 16)) : owedL d l (barCell c) () = 0 := by
  by_contra h
  obtain ⟨b, i, h⟩ := owedL_pos (Nat.pos_of_ne_zero h)
  exact ctr_ne_bar _ _ _ h.symm

theorem owed_bar (d c : Dev nD) : O₀ d (barCell c) () = if d = peerOf c then 1 else 0 := by
  unfold O₀
  rw [Pi.add_apply, Finsupp.add_apply, owedL_bar, Nat.zero_add, tallyAt_apply]
  refine if_congr ⟨fun h => eq_peer (Fin.ext (congrArg (fun g : GSem nD τ sig => g.1.1.val) h.1)).symm, fun h => ?_⟩ rfl rfl
  subst h; rw [peer_peer]; exact ⟨rfl, rfl⟩

theorem tally_rcv (d c : Dev nD) (b b' : Fin 2) (i j : Fin 16) :
    (tallyAt (rcvCell (peerOf d) b' j) () N : CellTallies nD τ sig Unit) (rcvCell c b i) () = if d = peerOf c ∧ b = b' ∧ i = j then N else 0 := by
  rw [tallyAt_apply]
  refine if_congr ⟨fun h => ?_, fun h => ?_⟩ rfl rfl
  · obtain ⟨h1, h2⟩ := ctr_inj h.1
    exact ⟨eq_peer h1.symm, congrArg (fun k : Ctr => k.2.1) h2, congrArg (fun k : Ctr => k.1) h2⟩
  · obtain ⟨rfl, rfl, rfl⟩ := h
    rw [peer_peer]; exact ⟨rfl, rfl⟩

theorem owedL_rcv (d c : Dev nD) (b : Fin 2) (i : Fin 16) : ∀ l : List (Fin 16), l.Nodup →
    owedL d l (rcvCell c b i) () = if d = peerOf c ∧ i ∈ l then N else 0
  | [], _ => by simp [owedL]
  | j :: l, h => by
    have ih := owedL_rcv d c b i l (List.nodup_cons.mp h).2
    have hj := (List.nodup_cons.mp h).1
    unfold owedL
    rw [Pi.add_apply, Finsupp.add_apply, Pi.add_apply, Finsupp.add_apply, tally_rcv, tally_rcv, ih]
    by_cases hd : d = peerOf c
    · by_cases hij : i = j
      · subst hij
        match b with
        | 0 => simp [hd, hj]
        | 1 => simp [hd, hj]
      · simp [hd, hij]
    · simp [hd]

theorem owed_rcv (d c : Dev nD) (b : Fin 2) (i : Fin 16) : O₀ d (rcvCell c b i) () = if d = peerOf c then N else 0 := by
  unfold O₀
  rw [Pi.add_apply, Finsupp.add_apply, tallyAt_ne_cell (ctr_ne_bar _ _ _), Finsupp.zero_apply, Nat.add_zero, owedL_rcv d c b i rows rows_nodup]
  exact if_congr ⟨And.left, fun h => ⟨h, mem_rows i⟩⟩ rfl rfl

theorem launch_at (c : Dev nD) (g : GSem nD τ sig) (n : ℕ) (h : ∀ d, O₀ d g () = if d = peerOf c then n else 0) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peerOf c) fun _ => n,
    if_pos (Finset.mem_univ _)]

/-- The arrivals among the semaphores. -/
def rcvEmb : Fin 16 × Fin 2 ↪ SemLoc sig := ⟨fun x => osem (x.1, x.2, 1), fun x y h => by
  have := osem_inj h
  exact Prod.ext (congrArg (fun k : Ctr => k.1) this) (congrArg (fun k : Ctr => k.2.1) this)⟩

theorem creds (c : Dev nD) : (Pipeline.launchCred O₀ c : sProp 𝕄) ⊢ credits c := by
  unfold Pipeline.launchCred credits
  rw [bigSep_univ_at _ barS, launch_at c (barCell c) 1 fun d => owed_bar d c]
  refine sep_mono_right ?_
  have hsub : (Finset.univ.map rcvEmb : Finset (SemLoc sig)) ⊆ Finset.univ.erase barS := by
    intro s hs
    obtain ⟨x, -, rfl⟩ := Finset.mem_map.mp hs
    exact Finset.mem_erase.mpr ⟨osem_ne_bar (x.1, x.2, 1), Finset.mem_univ _⟩
  refine BIBase.Entails.trans (bigSep_subset hsub) (Entails.of_eq ?_)
  rw [bigSep_map, bigSep_univ_prod]
  refine bigSep_congr fun i _ => ?_
  rw [bigSep_fin_two]
  unfold credRow
  rw [← launch_at c (rcvCell c 0 i) N fun d => owed_rcv d c 0 i, ← launch_at c (rcvCell c 1 i) N fun d => owed_rcv d c 1 i]
  rfl

/-! ## The start -/

abbrev T₀ (c : Dev nD) : sProp 𝕄 := iprop(StableHlo.held (c : Thread nD τ) bufs (U₀ m c) ∗ R₀ m c)
abbrev Tₙ (c : Dev nD) : sProp 𝕄 := iprop(StableHlo.held (c : Thread nD τ) bufs (U₃ m c) ∗ semVal (barCell c) 0)

def bundle (c : Dev nD) : sProp 𝕄 :=
  iprop(StableHlo.held (c : Thread nD τ) bufs (U₀ m c) ∗ credits c ∗ owes (c : Thread nD τ) (O₀ c) ∅ ∗ ∃ r, prngReg c r)

theorem T₀_intro (κ : GSem nD τ sig → ℕ) (c : Dev nD) : iprop(records m κ ∗ (linear c ∗ bundle m c)) ⊢ T₀ m c := by
  unfold bundle T₀ R₀ Tk
  iintro ⟨#HR, Hl, Hh, Hc, HO, Hp⟩
  isplitl [Hh]; · iexact Hh
  isplitl [Hl Hc]
  · isplitl [Hl]
    · iapply (ghost_intro m κ c)
      isplitr; · iexact HR
      iexact Hl
    iexact Hc
  isplitl [Hp]; · iexact Hp
  iexists ∅; iexact HO

theorem invs_intro (κ : GSem nD τ sig → ℕ) :
    (bigSep (barCells ∪ ctrCells) fun g => (cellInv ER (talkRd (BB m)) (κ g) g : sProp 𝕄)) ⊢ invs (BB m) κ := by
  rw [BI.bigSep_union disjoint_cells, bigSep_map, bigSep_map]
  exact .rfl

theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) bufs (U₀ m c) from Pipeline.unscopedBufs_held c (U₀ m c),
      unscopedSems_eq]
    unfold bundle
    iintro ⟨Hh, Hus, HO, Hcr, Hp, HG⟩
    isplitl [Hh HO Hcr Hp]
    · isplitl [Hh]; · iexact Hh
      isplitl [Hcr]; · iapply (creds c); iexact Hcr
      isplitl [HO]; · iexact HO
      iexists (ρ c); iexact Hp
    isplitl [Hus]; · iexact Hus
    iexact HG
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (barCell c) 0 : sProp 𝕄)) :=
    Entails.of_eq (bigSep_map (s := Finset.univ) barEmb (Φ := fun g : GSem nD τ sig => (reached ER g 0 : sProp 𝕄)))
  have hop : bigSep ctrCells (fun g => (openTok ER g : sProp 𝕄))
      ⊢ bigSep Finset.univ (fun c : Dev nD => bigSep Finset.univ fun k : Ctr => openTok ER (ctrCell c k)) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := bigSep_unpair $$ H'; icases H2 with ⟨HB, H3⟩
  ihave H4 := bigSep_unpair $$ H3; icases H4 with ⟨Hv, HG⟩
  ihave Hu := (show bigSep Finset.univ (G (F := F)) ⊢ BI.own (ER (launchOf barCells ctrCells talkToks)) from
    Entails.of_eq (bigSep_atZero (F := F) (BI.own (ER (launchOf barCells ctrCells talkToks))))) $$ HG
  imod (Rounds.fund_launch ER (talkRd (BB m)) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m κ c)
  isplitr
  · unfold records
    isplitr; · iapply (invs_intro m κ); iexact Hinv
    iapply hre; iexact Hr
  iapply bigSep_pair
  isplitr [HB]
  · unfold linear
    iapply bigSep_pair; isplitl [Hat]; · iapply hat $$ Hat
    iapply bigSep_pair; isplitl [Hopen]; · iapply hop $$ Hopen
    iapply (toks_dealt (F := F)); iexact Htok
  · iexact HB

/-! ## The run -/

theorem unscoped_eq : ∀ sm : SemLoc sig, sm.isScoped .tc = false → sm = barS := by decide +kernel

/-- What a claim reads at the end. -/
abbrev ends : List (DevRef τ sig) := [Proc.devRef .tc main_arg0, Proc.devRef .tc main_arg1, Proc.devRef .tc main_arg2, Proc.devRef .tc main_v9]
theorem ends_sub : ends.toFinset ⊆ bufs := by decide
theorem held_ends (c : Dev nD) (W : Valuation τ sig (Elt F)) : (StableHlo.held (c : Thread nD τ) ends.toFinset W : sProp 𝕄)
    = iprop((((c : Thread nD τ).loc main_arg0) ↦{fullShare} W (Proc.devRef .tc main_arg0)) ∗ (((c : Thread nD τ).loc main_arg1) ↦{fullShare} W (Proc.devRef .tc main_arg1))
      ∗ (((c : Thread nD τ).loc main_arg2) ↦{fullShare} W (Proc.devRef .tc main_arg2)) ∗ (((c : Thread nD τ).loc main_v9) ↦{fullShare} W (Proc.devRef .tc main_v9))) := by
  unfold StableHlo.held
  rw [bigSep_eq_bigSepL_of_eq ends rfl (by decide)]
  rfl

theorem U₁_of (c : Dev nD) (b : DevRef τ sig) (h : ∀ op ∈ (hostOps0 : List (HloOp τ sig (Elt F))), b ∉ op.writes) : U₁ m c b = m (c, b) :=
  StableHlo.after_of_forall_not_mem (b := b) _ _ h
theorem U₃_of (c : Dev nD) (b : DevRef τ sig) (h : ∀ op ∈ (hostOps1 : List (HloOp τ sig (Elt F))), b ∉ op.writes) : U₃ m c b = U₂ m c b :=
  StableHlo.after_of_forall_not_mem (b := b) _ _ h

theorem arg_kept (c : Dev nD) (b : Ref sig .tc) (hb : b = main_arg0 ∨ b = main_arg1 ∨ b = main_arg2) :
    U₃ m c (Proc.devRef .tc b) = m (c, Proc.devRef .tc b) := by
  rw [U₃_of, U₂_of_ne, U₁_of]
  · refine List.forall_iff_forall_mem.mp ?_
    simp only [hostOps0, List.Forall, StableHlo.unary_writes, StableHlo.reshape_writes, Finset.mem_singleton]
    rcases hb with rfl | rfl | rfl
    all_goals
      repeat' apply And.intro
      all_goals exact StableHlo.devRef_ne_of_ne (by decide)
  · rcases hb with rfl | rfl | rfl <;> exact StableHlo.devRef_ne_of_ne (by decide)
  · refine List.forall_iff_forall_mem.mp ?_
    simp only [hostOps1, List.Forall, StableHlo.unary_writes, StableHlo.reshape_writes, Finset.mem_singleton]
    rcases hb with rfl | rfl | rfl
    all_goals
      repeat' apply And.intro
      all_goals exact StableHlo.devRef_ne_of_ne (by decide)

/-- What a device ends with: the result, its operands as launched. -/
def EndsAt (s : MemSt nD τ sig (Elt F)) (c : Dev nD) : Prop :=
  s.mem ((c : Thread nD τ).loc main_v9) = U₃ m c (Proc.devRef .tc main_v9)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)

set_option backward.isDefEq.respectTransparency.types false in
/-- Every run ends, with the result at `U₃`, the operands as launched and every counter at zero. -/
theorem run_main : θ_run defs (onTc (τ := τ) (main (F := F))) (s₀ m ρ)
    (fun r => (∀ c : Dev nD, EndsAt m r.2 c) ∧ r.2.sem = fun _ => 0) :=
  Pipeline.θ_run_regions_kit_sems (pcfgs (F := F)) adm (pdats m) () cellOf_inj EP defs₀ 𝒱₀ L lv m ρ main (segs m)
    (fun c Q => by rw [main_eq m c])
    (by simp only [segs, Pipeline.Seg.pipes_host, Pipeline.Seg.pipes_region, Pipeline.Seg.pipes_nil]; decide)
    (O₀ := O₀) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_atZero]; iexact HX)
    (T₀ := T₀ m) (Tₙ := Tₙ m)
    (hch := by
      refine ⟨fun c => .rfl, fun c => reg0_pre m c, fun c => reg0_post m c, fun c => ?_⟩
      show iprop(StableHlo.held (c : Thread nD τ) bufs (U₃ m c) ∗ R₁ c) ⊢ iprop(Tₙ m c ∗ ∃ W, owes (c : Thread nD τ) (0 : CellTallies nD τ sig Unit) W)
      unfold R₁
      iintro ⟨Hh, Hb, HO⟩
      isplitr [HO]
      · isplitl [Hh]; · iexact Hh
        iexact Hb
      · iexact HO)
    (hinit := init m ρ)
    (QY := fun c s => (s.mem ((c : Thread nD τ).loc main_arg0) = U₃ m c (Proc.devRef .tc main_arg0) ∧ s.mem ((c : Thread nD τ).loc main_arg1) = U₃ m c (Proc.devRef .tc main_arg1)
        ∧ s.mem ((c : Thread nD τ).loc main_arg2) = U₃ m c (Proc.devRef .tc main_arg2) ∧ s.mem ((c : Thread nD τ).loc main_v9) = U₃ m c (Proc.devRef .tc main_v9))
      ∧ s.sem (barCell c) = 0)
    (hfin := fun c s' => by
      dsimp only [Tₙ]; rw [StableHlo.held_sub_split (c : Thread nD τ) ends_sub (U₃ m c), held_ends]
      iintro ⟨⟨⟨⟨H0, H1, H2, H3⟩, -⟩, Hb⟩, HSI⟩
      icombine HSI H0 gives %h0
      icombine HSI H1 gives %h1
      icombine HSI H2 gives %h2
      icombine HSI H3 gives %h3
      icombine HSI Hb gives %hb
      imodintro
      isplitr
      · ipureintro
        exact ⟨⟨Buf.eq_of_forall_mem_univ h0, Buf.eq_of_forall_mem_univ h1, Buf.eq_of_forall_mem_univ h2, Buf.eq_of_forall_mem_univ h3⟩, by simpa using hb⟩
      iexact HSI)
    (hQ := fun s h hs => ⟨fun c => by
        obtain ⟨⟨h0, h1, h2, h3⟩, -⟩ := h c
        exact ⟨h3, h0.trans (arg_kept m c main_arg0 (.inl rfl)), h1.trans (arg_kept m c main_arg1 (.inr (.inl rfl))), h2.trans (arg_kept m c main_arg2 (.inr (.inr rfl)))⟩,
      sem_eq_zero hs fun c sm hsm => by
        obtain rfl := unscoped_eq sm hsm
        exact (h c).2⟩)

end Cert.Attn

end
-- ==== Proof.Attn.Frames.lean ====
/- The claims on how the programs run: they end, the operands are as launched, every counter is at zero. -/
module

public import proofs.«01_k».proof.Defs
public import proofs.«01_k».proof.Proof.Attn.Launch
public import proofs.«01_k».proof.Proof.Gen.Kernel
public import proofs.«01_k».proof.Proof.Gen.ReferenceIdeal.Run
public import proofs.«01_k».proof.Proof.Gen.WireReferenceIdeal.Run

@[expose] public section

noncomputable section

namespace Cert.Attn

open Idealize.ShloMosaic Idealize.ShloMosaic.TcCoe Idealize.SL.Sem

instance : Cert.Pre_finite_KernelIdeal.Facts := ⟨by decide, by decide, by decide⟩
instance : Cert.Pre_on_wire_KernelIdeal.Facts := ⟨by decide, by decide, by decide⟩
instance : Cert.Pre_on_wire_ReferenceIdeal.Facts := ⟨by decide, by decide, by decide⟩
instance : Cert.Pre_finite_WireReferenceIdeal.Facts := ⟨by decide, by decide, by decide⟩

section
open Cert.KernelIdeal

/-- The run's frame, over any numbers. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run_main m ρ)

end

/-! The two programs are one text. -/

theorem body_same : @Cert.Kernel.cc0__body Bits _ _ = @Cert.KernelIdeal.cc0__body Bits _ _ := rfl

theorem labels_same : Cert.Kernel.defs₀ (F := Bits) = Cert.KernelIdeal.defs₀ (F := Bits) := by
  unfold Cert.Kernel.defs₀ Cert.KernelIdeal.defs₀
  refine congrArg Defs.onTc (funext fun l => funext fun x => ?_)
  match l with
  | 0 => rfl

theorem defs_same : Cert.Kernel.defs (F := Bits) = Cert.KernelIdeal.defs (F := Bits) := by
  unfold Cert.Kernel.defs Cert.KernelIdeal.defs
  rw [← labels_same]
  rfl

theorem frame_kernel : Cert.quiescent_Kernel := fun m ρ _ => by
  rw [defs_same]
  exact frame_any (F := Bits) m ρ
theorem frame_ideal : Cert.quiescent_KernelIdeal := fun m ρ _ => frame_any (F := Ideal) m ρ

theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

theorem frame_wire : Cert.quiescent_WireReferenceIdeal := fun m ρ _ =>
  (θ_run Cert.WireReferenceIdeal.defs _ _).mono (fun r h => ⟨fun c => (h c).2, sem_eq_zero_of_no_sems rfl r.2⟩) (Cert.WireReferenceIdeal.Value.run (F := Ideal) m ρ)

end Cert.Attn

end
-- ==== Proof.Attn.Numbers.lean ====
/- The constants of the two programs as real numbers, the eight-bit quantiser on one number, and attention over reals. -/
module

public import Idealize.ShloMosaic.Lib.Pointwise

@[expose] public section

noncomputable section

namespace Cert.Attn

open Idealize.ShloMosaic

/-- The step of the wire format: the single-precision number next to 1/24. -/
def step : ℝ := 11184811 / 268435456

theorem bits_inv_step : Ideal.ofBits .f32 0x41C00000#32 = ((24 : ℝ) : EReal) := by
  simp [Ideal.ofBits, Ideal.ieee, -EReal.coe_mul]; norm_num
theorem bits_lo : Ideal.ofBits .f32 0xC3000000#32 = ((-128 : ℝ) : EReal) := by
  simp [Ideal.ofBits, Ideal.ieee, -EReal.coe_mul]; norm_num
theorem bits_hi : Ideal.ofBits .f32 0x42FE0000#32 = ((127 : ℝ) : EReal) := by
  simp [Ideal.ofBits, Ideal.ieee, -EReal.coe_mul]; norm_num
theorem bits_step : Ideal.ofBits .f32 0x3D2AAAAB#32 = ((step : ℝ) : EReal) := by
  simp [Ideal.ofBits, Ideal.ieee, step, -EReal.coe_mul]; norm_num
theorem bits_eighth : Ideal.ofBits .f32 0x3E000000#32 = ((1 / 8 : ℝ) : EReal) := by
  simp [Ideal.ofBits, Ideal.ieee, -EReal.coe_mul]; norm_num
theorem bits_step_eighth : Ideal.ofBits .f32 0x3BAAAAAB#32 = ((step * (1 / 8) : ℝ) : EReal) := by
  simp [Ideal.ofBits, Ideal.ieee, step, -EReal.coe_mul]; norm_num
theorem bits_bot : Ideal.ofBits .f32 0xFF800000#32 = (⊥ : EReal) := by
  simp [Ideal.ofBits, Ideal.ieee]
theorem bits_top : Ideal.ofBits .f32 0x7F800000#32 = (⊤ : EReal) := by
  simp [Ideal.ofBits, Ideal.ieee]

/-! ## The quantiser on one number -/

/-- The eight-bit integer sent for a number. -/
def code (x : EReal) : ℤ := (Ideal.fptosi 8 (Ideal.liftRound Ideal.roundHalfEven (x * ((24 : ℝ) : EReal)))).toInt

/-- The number a receiver reads off it. -/
def onWire (x : EReal) : ℝ := (code x : ℝ) * step

theorem clamp_int (n : ℤ) : Ideal.toIntClamped (-128) 127 ((n : ℝ) : EReal) = min (max n (-128)) 127 := by
  rw [Ideal.toIntClamped_coe]
  simp only [Int.floor_intCast, Int.ceil_intCast, ite_self]
  omega

/-- An integer cut to eight bits and read back. -/
theorem byte_int (n : ℤ) : (Ideal.fptosi 8 ((n : ℝ) : EReal)).toInt = min (max n (-128)) 127 := by
  have h : Ideal.fptosi 8 ((n : ℝ) : EReal) = BitVec.ofInt 8 (min (max n (-128)) 127) := by
    show BitVec.ofInt 8 (Ideal.toIntClamped _ _ _) = _
    rw [← clamp_int]
    norm_num
  rw [h, BitVec.toInt_ofInt]
  have h1 : -128 ≤ min (max n (-128)) 127 := by omega
  have h2 : min (max n (-128)) 127 ≤ 127 := by omega
  rw [Int.bmod_def]
  split <;> omega

/-- A rounded number held between the least and the greatest byte is the byte that it is cut to. -/
theorem clamp_byte (x : EReal) :
    min (max (Ideal.liftRound Ideal.roundHalfEven x) ((-128 : ℝ) : EReal)) ((127 : ℝ) : EReal)
      = (((Ideal.fptosi 8 (Ideal.liftRound Ideal.roundHalfEven x)).toInt : ℝ) : EReal) := by
  induction x with
  | bot =>
    show min (max ⊥ _) _ = ((((BitVec.ofInt 8 (-128)).toInt : ℤ) : ℝ) : EReal)
    rw [max_eq_right bot_le, ← EReal.coe_strictMono.monotone.map_min, show (BitVec.ofInt 8 (-128)).toInt = -128 by decide]
    norm_num
  | top =>
    show min (max ⊤ _) _ = ((((BitVec.ofInt 8 127).toInt : ℤ) : ℝ) : EReal)
    rw [max_eq_left le_top, min_eq_right le_top, show (BitVec.ofInt 8 127).toInt = 127 by decide]
    norm_num
  | coe r =>
    rw [Ideal.liftRound_coe, byte_int, ← EReal.coe_strictMono.monotone.map_max, ← EReal.coe_strictMono.monotone.map_min]
    push_cast
    rfl

/-- The reference's quantiser is the byte sent, times the step. -/
theorem wire_value (x : EReal) :
    min (max (Ideal.liftRound Ideal.roundHalfEven (x * ((24 : ℝ) : EReal))) ((-128 : ℝ) : EReal)) ((127 : ℝ) : EReal)
      * ((step : ℝ) : EReal) = ((onWire x : ℝ) : EReal) := by
  rw [clamp_byte, onWire, code, EReal.coe_mul]

/-! ## Sums and quotients of reals among the extended reals -/

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s h ih => rw [Finset.sum_insert h, Finset.sum_insert h, ih, EReal.coe_add]

theorem div_real (x y : ℝ) (h : y ≠ 0) : Ideal.div (x : EReal) (y : EReal) = ((x / y : ℝ) : EReal) := by
  rw [Ideal.div_coe h, ← EReal.coe_mul, mul_one_div]

/-- A factor that is a real of at least zero goes into a sum of any extended reals. -/
theorem sum_mul_coe {ι : Type} (s : Finset ι) (f : ι → EReal) {c : ℝ} (hc : 0 ≤ c) :
    (∑ i ∈ s, f i) * (c : EReal) = ∑ i ∈ s, f i * (c : EReal) := by
  classical
  induction s using Finset.induction_on with
  | empty => simp
  | insert a s h ih =>
    rw [Finset.sum_insert h, Finset.sum_insert h,
      EReal.right_distrib_of_nonneg_of_ne_top (EReal.coe_nonneg.2 hc) (EReal.coe_ne_top c), ih]

/-! ## Attention of real queries and keys, for any values -/

variable {n : ℕ}

/-- The weight of a key for a query: the exponential of their product over eight. -/
def weight (q k : Fin 64 → ℝ) : ℝ := Real.exp ((∑ e, q e * k e) * (1 / 8))

/-- The weighted values and the weights, added up. -/
def numer (q : Fin 64 → ℝ) (k : Fin n → Fin 64 → ℝ) (v : Fin n → EReal) : EReal := ∑ j, ((weight q (k j) : ℝ) : EReal) * v j
def denom (q : Fin 64 → ℝ) (k : Fin n → Fin 64 → ℝ) : ℝ := ∑ j, weight q (k j)

theorem weight_pos (q k : Fin 64 → ℝ) : 0 < weight q k := Real.exp_pos _

theorem denom_pos (q : Fin 64 → ℝ) (k : Fin (n + 1) → Fin 64 → ℝ) : 0 < denom q k :=
  Finset.sum_pos (fun j _ => weight_pos q (k j)) Finset.univ_nonempty

/-- The attention of one query, for the values at one place. -/
def att (q : Fin 64 → ℝ) (k : Fin n → Fin 64 → ℝ) (v : Fin n → EReal) : EReal := numer q k v * ((1 / denom q k : ℝ) : EReal)

/-- Two lists one behind the other. -/
def glue {α : Type} (a b : Fin 512 → α) : Fin 1024 → α :=
  fun j => if h : j.val < 512 then a ⟨j, h⟩ else b ⟨j - 512, by omega⟩

theorem sum_glue {α β : Type} [AddCommMonoid β] (f : α → β) (a b : Fin 512 → α) :
    ∑ j, f (glue a b j) = (∑ j, f (a j)) + ∑ j, f (b j) := by
  rw [Fin.sum_univ_two_halves 512 512 rfl]
  refine congrArg₂ _ (Finset.sum_congr rfl fun j _ => congrArg f ?_) (Finset.sum_congr rfl fun j _ => congrArg f ?_)
  · exact dif_pos j.isLt
  · exact (dif_neg (by simp)).trans (congrArg b (Fin.ext (by simp)))

end Cert.Attn

end
-- ==== Proof.Attn.Payloads.lean ====
/- What the kernel body computes for one pair of a batch and a head, read at an index and taken over reals. -/
module

public import proofs.«01_k».proof.Proof.Attn.Numbers
public import proofs.«01_k».proof.Proof.Attn.Run

@[expose] public section

set_option maxRecDepth 16384

noncomputable section

namespace Cert.Attn

open Idealize.ShloMosaic Cert.KernelIdeal Cert.KernelIdeal.Gen

abbrev Row : Type := Vec Ideal S1x512x64 .f32

theorem pay1_apply (x : Row) (j : Fin 512) (e : Fin 64) : k0_pay1 x (ix3 0 j e)
    = Ideal.fptosi 8 (Ideal.liftRound Ideal.roundHalfEven (x (ix3 0 j e) * ((24 : ℝ) : EReal))) := by
  pointwise [k0_pay1, bits_inv_step]
  rfl

theorem pay41_apply (q k : Row) (s j : Fin 512) : k0_pay41 q k (ix2 s j)
    = Ideal.exp ((∑ e : Fin 64, q (ix3 0 s e) * k (ix3 0 j e)) * ((1 / 8 : ℝ) : EReal)) := by
  pointwise [k0_pay41, bits_eighth]

theorem pay42_apply (q k : Row) (s : Fin 512) : k0_pay42 q k (ix3 0 s 0) = ∑ j : Fin 512, k0_pay41 q k (ix2 s j) := by
  pointwise [k0_pay42]

theorem pay43_apply (q k v : Row) (s : Fin 512) (d : Fin 64) : k0_pay43 q k v (ix3 0 s d)
    = ∑ j : Fin 512, k0_pay41 q k (ix2 s j) * v (ix3 0 j d) := by
  pointwise [k0_pay43]

theorem pay40_eq (X : Vec Ideal S16x512x64 .f32) : k0_pay40 X = X := by
  funext x
  pointwise [k0_pay40]

/-- The weight of a key sent as bytes. -/
def farWeight (q : Row) (k : IVec S1x512x64 8) (s j : Fin 512) : EReal :=
  Ideal.exp ((∑ e : Fin 64, q (ix3 0 s e) * (((k (ix3 0 j e)).toInt : ℝ) : EReal)) * ((step * (1 / 8) : ℝ) : EReal))

theorem pay126_apply (q : Row) (k v : IVec S1x512x64 8) (o : Row) (l : Vec Ideal S1x512x1 .f32) (s : Fin 512) (d : Fin 64) :
    k0_pay126 (F := Ideal) q k v o l (ix3 0 s d)
      = Ideal.div (o (ix3 0 s d) + (∑ j : Fin 512, farWeight q k s j * (((v (ix3 0 j d)).toInt : ℝ) : EReal)) * ((step : ℝ) : EReal))
          (l (ix3 0 s 0) + ∑ j : Fin 512, farWeight q k s j) := by
  pointwise [k0_pay126, bits_step, bits_step_eighth, farWeight]
  rfl

/-! ## Over real queries and keys, for any values -/

/-- A row of reals as the kernel holds it. -/
def liftRow (x : Fin 512 → Fin 64 → ℝ) : Row := fun i => ((x (i 1) (i 2) : ℝ) : EReal)

theorem liftRow_apply (x : Fin 512 → Fin 64 → ℝ) (a : Fin 1) (s : Fin 512) (d : Fin 64) :
    liftRow x (ix3 a s d) = ((x s d : ℝ) : EReal) := rfl

/-- A row quantised for the wire. -/
def wireRow (x : Fin 512 → Fin 64 → ℝ) : Fin 512 → Fin 64 → ℝ := fun j e => onWire ((x j e : ℝ) : EReal)

variable (q k k' : Fin 512 → Fin 64 → ℝ)

theorem near_weight (s j : Fin 512) : k0_pay41 (liftRow q) (liftRow k) (ix2 s j) = ((weight (q s) (k j) : ℝ) : EReal) := by
  rw [pay41_apply]
  simp only [liftRow_apply, ← EReal.coe_mul, coe_sum, Ideal.exp_coe, weight]

theorem byte_apply (x : Row) (j : Fin 512) (e : Fin 64) : (k0_pay1 x (ix3 0 j e)).toInt = code (x (ix3 0 j e)) := by
  rw [pay1_apply, code]

theorem far_weight (s j : Fin 512) :
    farWeight (liftRow q) (k0_pay1 (liftRow k')) s j = ((weight (q s) (wireRow k' j) : ℝ) : EReal) := by
  unfold farWeight
  simp only [byte_apply, liftRow_apply, ← EReal.coe_mul, coe_sum, Ideal.exp_coe, weight, wireRow, onWire]
  rw [← mul_assoc, Finset.sum_mul]
  simp only [mul_assoc]

/-- The body's result for one pair: attention over the device's own rows and the quantised rows of the other device. -/
theorem row_value (V V' : Row) (s : Fin 512) (d : Fin 64) :
    k0_pay126 (F := Ideal) (liftRow q) (k0_pay1 (liftRow k')) (k0_pay1 V')
        (k0_pay43 (liftRow q) (liftRow k) V) (k0_pay42 (liftRow q) (liftRow k)) (ix3 0 s d)
      = (numer (q s) k (fun j => V (ix3 0 j d))
          + numer (q s) (wireRow k') (fun j => ((onWire (V' (ix3 0 j d)) : ℝ) : EReal)))
        * ((1 / (denom (q s) k + denom (q s) (wireRow k')) : ℝ) : EReal) := by
  rw [pay126_apply, pay42_apply, pay43_apply]
  simp only [near_weight, far_weight, byte_apply, coe_sum, ← EReal.coe_add]
  have hpos : 0 < denom (q s) k + denom (q s) (wireRow k') := add_pos (denom_pos (n := 511) _ _) (denom_pos (n := 511) _ _)
  have ht : (∑ j, ((weight (q s) (wireRow k' j) : ℝ) : EReal) * ((code (V' (ix3 0 j d)) : ℝ) : EReal)) * ((step : ℝ) : EReal)
      = numer (q s) (wireRow k') (fun j => ((onWire (V' (ix3 0 j d)) : ℝ) : EReal)) := by
    simp only [numer, onWire, ← EReal.coe_mul, coe_sum, Finset.sum_mul, mul_assoc]
  rw [ht]
  exact Ideal.div_coe hpos.ne' _

theorem att_glue (q : Fin 64 → ℝ) (k k' : Fin 512 → Fin 64 → ℝ) (v v' : Fin 512 → EReal) :
    att q (glue k k') (glue v v') = (numer q k v + numer q k' v') * ((1 / (denom q k + denom q k') : ℝ) : EReal) := by
  have h := sum_glue (fun p : (Fin 64 → ℝ) × EReal => ((weight q p.1 : ℝ) : EReal) * p.2) (fun j => (k j, v j)) (fun j => (k' j, v' j))
  have e : ∀ j, glue (fun j => (k j, v j)) (fun j => (k' j, v' j)) j = (glue k k' j, glue v v' j) := fun j => by
    unfold glue
    split <;> rfl
  simp only [e] at h
  rw [att, denom, sum_glue (weight q), numer, h]
  rfl

end Cert.Attn

end
-- ==== Proof.Attn.Reference.lean ====
/- The references' arrays read at an index. -/
module

public import proofs.«01_k».proof.Proof.Attn.Numbers
public import proofs.«01_k».proof.Proof.Gen.ReferenceIdeal.Run

@[expose] public section

set_option maxRecDepth 16384

noncomputable section

namespace Cert.Attn

open Idealize.ShloMosaic Cert.ReferenceIdeal Cert.ReferenceIdeal.Gen

abbrev Whole : Type := FVec Ideal S2x1024x8x64 .f32
abbrev Square : Type := FVec Ideal S2x8x1024x1024 .f32

/-- Each query against each key, over eight. -/
def scores (Q K : Whole) : Square :=
  mulf (Host.dotGeneral dot_S2x1024x8x64_S2x1024x8x64_S2x8x1024x1024_3_3_1_1_02_02 none Q K)
    (broadcastInDim S2x8x1024x1024 ![] bcast_S_S2x8x1024x1024 (constant S_ .f32 0x3E000000#32))

/-- One number of each row spread over the row. -/
def spread (x : FVec Ideal S2x8x1024 .f32) : Square :=
  broadcastInDim S2x8x1024x1024 ![0, 1, 2, 3] bcast_S2x8x1024x1_S2x8x1024x1024_0_1_2_3
    (broadcastInDim S2x8x1024x1 ![0, 1, 2] bcast_S2x8x1024_S2x8x1024x1_0_1_2 x)

/-- The greatest of each row. -/
def highest (S : Square) : FVec Ideal S2x8x1024 .f32 :=
  Host.reduce FloatOps.maximumf S (constant S_ .f32 0xFF800000#32) reducesTo_S2x8x1024x1024_S2x8x1024_d3 h_S_

def weights (S : Square) : Square := Host.exp (subf S (spread (highest S)))

def totals (E : Square) : FVec Ideal S2x8x1024 .f32 :=
  Host.reduceAdd E (constant S_ .f32 0x00000000#32) reducesTo_S2x8x1024x1024_S2x8x1024_d3 h_S_

/-- The reference: attention as printed. -/
def refAtt (Q K V : Whole) : Whole :=
  transpose S2x1024x8x64 [0, 3, 1, 2]
    (Host.dotGeneral dot_S2x1024x8x64_S2x8x1024x1024_S2x8x64x1024_1_3_3_2_02_01 none V
      (Host.divf (weights (scores Q K)) (spread (totals (weights (scores Q K))))))
    transposes_S2x8x64x1024_S2x1024x8x64_0_3_1_2

theorem scores_apply (Q K : Whole) (b : Fin 2) (h : Fin 8) (q k : Fin 1024) :
    scores Q K (ix4 b h q k) = (∑ e : Fin 64, Q (ix4 b q h e) * K (ix4 b k h e)) * ((1 / 8 : ℝ) : EReal) := by
  pointwise [scores, bits_eighth]

theorem spread_apply (x : FVec Ideal S2x8x1024 .f32) (b : Fin 2) (h : Fin 8) (q k : Fin 1024) :
    spread x (ix4 b h q k) = x (ix3 b h q) := by
  pointwise [spread]

theorem highest_apply (S : Square) (b : Fin 2) (h : Fin 8) (q : Fin 1024) :
    highest S (ix3 b h q) = Finset.univ.fold max ⊥ fun k : Fin 1024 => S (ix4 b h q k) := by
  pointwise [highest, bits_bot]

theorem totals_apply (E : Square) (b : Fin 2) (h : Fin 8) (q : Fin 1024) :
    totals E (ix3 b h q) = ∑ k : Fin 1024, E (ix4 b h q k) := by
  pointwise [totals]

theorem weights_apply (S : Square) (b : Fin 2) (h : Fin 8) (q k : Fin 1024) :
    weights S (ix4 b h q k) = Ideal.exp (S (ix4 b h q k) - highest S (ix3 b h q)) := by
  pointwise [weights, spread_apply]

theorem refAtt_apply (Q K V : Whole) (b : Fin 2) (q : Fin 1024) (h : Fin 8) (d : Fin 64) :
    refAtt Q K V (ix4 b q h d) = ∑ k : Fin 1024, V (ix4 b k h d) *
      Ideal.div (weights (scores Q K) (ix4 b h q k)) (totals (weights (scores Q K)) (ix3 b h q)) := by
  pointwise [refAtt, spread_apply]

/-- The greatest of finitely many reals is a real. -/
theorem fold_max_real {n : ℕ} (f : Fin (n + 1) → ℝ) :
    ∃ r : ℝ, (Finset.univ.fold max (⊥ : EReal) fun k => ((f k : ℝ) : EReal)) = (r : EReal) := by
  have hne : (Finset.univ : Finset (Fin (n + 1))).Nonempty := Finset.univ_nonempty
  obtain ⟨k, -, hk⟩ := Finset.exists_mem_eq_sup' hne (fun k => ((f k : ℝ) : EReal))
  refine ⟨f k, ?_⟩
  rw [← hk, Finset.sup'_eq_sup]
  rfl

section
variable (q k : Fin 2 → Fin 1024 → Fin 8 → Fin 64 → ℝ)

/-- An array of reals as the programs hold it. -/
def lift (x : Fin 2 → Fin 1024 → Fin 8 → Fin 64 → ℝ) : Whole := fun i => ((x (i 0) (i 1) (i 2) (i 3) : ℝ) : EReal)

theorem lift_apply (x : Fin 2 → Fin 1024 → Fin 8 → Fin 64 → ℝ) (b : Fin 2) (s : Fin 1024) (h : Fin 8) (d : Fin 64) :
    lift x (ix4 b s h d) = ((x b s h d : ℝ) : EReal) := rfl

/-- The reference of real queries and keys: attention, the greatest score of the row cancelling. -/
theorem refAtt_real (V : Whole) (b : Fin 2) (s : Fin 1024) (h : Fin 8) (d : Fin 64) :
    refAtt (lift q) (lift k) V (ix4 b s h d) = att (q b s h) (fun j => k b j h) (fun j => V (ix4 b j h d)) := by
  have hs : ∀ j : Fin 1024, scores (lift q) (lift k) (ix4 b h s j)
      = (((∑ e, q b s h e * k b j h e) * (1 / 8) : ℝ) : EReal) := fun j => by
    rw [scores_apply]
    simp only [lift_apply, ← EReal.coe_mul, coe_sum]
  obtain ⟨r, hr⟩ := fold_max_real (n := 1023) fun j => (∑ e, q b s h e * k b j h e) * (1 / 8)
  have hm : highest (scores (lift q) (lift k)) (ix3 b h s) = (r : EReal) := by
    rw [highest_apply]
    simp only [hs]
    exact hr
  have hw : ∀ j : Fin 1024, weights (scores (lift q) (lift k)) (ix4 b h s j)
      = ((weight (q b s h) (k b j h) * Real.exp (-r) : ℝ) : EReal) := fun j => by
    rw [weights_apply, hs, hm, ← EReal.coe_sub, Ideal.exp_coe, weight, ← Real.exp_add, sub_eq_add_neg]
  have hl : totals (weights (scores (lift q) (lift k))) (ix3 b h s)
      = ((denom (q b s h) (fun j => k b j h) * Real.exp (-r) : ℝ) : EReal) := by
    rw [totals_apply]
    simp only [hw, coe_sum]
    rw [denom, Finset.sum_mul]
  have hpos : 0 < denom (q b s h) (fun j => k b j h) := denom_pos (n := 1023) _ _
  have he : 0 < Real.exp (-r) := Real.exp_pos _
  rw [refAtt_apply, att, numer, sum_mul_coe _ _ (one_div_nonneg.2 hpos.le)]
  refine Finset.sum_congr rfl fun j _ => ?_
  rw [hw, hl, div_real _ _ (mul_pos hpos he).ne', mul_div_mul_right _ _ he.ne', div_eq_mul_one_div, EReal.coe_mul, mul_comm,
    mul_right_comm]

end

end Cert.Attn

end
-- ==== Proof.Attn.Wire.lean ====
/- The reference with the exchanged rows quantised: its array read half by half. -/
module

public import proofs.«01_k».proof.Proof.Attn.Reference
public import proofs.«01_k».proof.Proof.Gen.WireReferenceIdeal.Run

@[expose] public section

set_option maxRecDepth 16384

noncomputable section

namespace Cert.Attn

open Idealize.ShloMosaic Cert.WireReferenceIdeal Cert.WireReferenceIdeal.Gen

/-- One number everywhere. -/
def everywhere (b : BitVec 32) : Whole := broadcastInDim S2x1024x8x64 ![] bcast_S_S2x1024x8x64 (constant S_ .f32 b)

/-- An array through the wire's eight bits. -/
def wireArr (X : Whole) : Whole :=
  mulf (minimumf (maximumf (Host.roundeven (mulf X (everywhere 0x41C00000#32))) (everywhere 0xC3000000#32)) (everywhere 0x42FE0000#32))
    (everywhere 0x3D2AAAAB#32)

/-- The first half of one array's sequence before the second half of another's. -/
def halves (X Y : Whole) : Whole :=
  concatenate S2x1024x8x64 1
    [⟨S2x512x8x64, extractStridedSlice S2x512x8x64 ![0, 0, 0, 0] X slices_S2x1024x8x64_S2x512x8x64_0_0_0_0⟩,
     ⟨S2x512x8x64, extractStridedSlice S2x512x8x64 ![0, 512, 0, 0] Y slices_S2x1024x8x64_S2x512x8x64_0_512_0_0⟩]
    concatenates_S2x512x8x64_S2x512x8x64_S2x1024x8x64_d1

/-- Each half of the queries against its own half plain and the other half through the wire. -/
def wireRef (Q K V : Whole) : Whole :=
  halves (refAtt Q (halves K (wireArr K)) (halves V (wireArr V))) (refAtt Q (halves (wireArr K) K) (halves (wireArr V) V))

/-- The printed reference's result is that array. -/
theorem wire_printed (m : (ℓ : Loc nD τ sig) → Buf (Elt Ideal) ℓ) (c : Dev nD) :
    Value.res_main_v78 m c = wireRef (m ((c.tc : Thread nD τ).loc main_arg0)) (m ((c.tc : Thread nD τ).loc main_arg1))
      (m ((c.tc : Thread nD τ).loc main_arg2)) := rfl

theorem wireArr_apply (X : Whole) (i : S2x1024x8x64.Idx) : wireArr X i = ((onWire (X i) : ℝ) : EReal) := by
  rw [← wire_value, ← bits_inv_step, ← bits_lo, ← bits_hi, ← bits_step]
  pointwise [wireArr, everywhere]

theorem halves_apply (X Y : Whole) (b : Fin 2) (s : Fin 1024) (h : Fin 8) (d : Fin 64) :
    halves X Y (ix4 b s h d) = if s.val < 512 then X (ix4 b s h d) else Y (ix4 b s h d) := by
  pointwise [halves]
  split
  · rfl
  · refine congrArg (fun s => Y (ix4 b s h d)) (Fin.ext ?_)
    show 512 + (s.val - 512) = s.val
    omega

abbrev Table : Type := Fin 2 → Fin 1024 → Fin 8 → Fin 64 → ℝ

/-- A table of reals quantised. -/
def wireTable (x : Table) : Table := fun b s h d => onWire ((x b s h d : ℝ) : EReal)

/-- The same cut and joined for tables. -/
def joined (x y : Table) : Table := fun b s h d => if s.val < 512 then x b s h d else y b s h d

theorem whole_ext {X Y : Whole} (e : ∀ b s h d, X (ix4 b s h d) = Y (ix4 b s h d)) : X = Y := by
  funext i
  rw [eq_ix4 i]
  exact e _ _ _ _

theorem wireArr_lift (x : Table) : wireArr (lift x) = lift (wireTable x) := by
  funext i
  exact wireArr_apply _ i

theorem halves_lift (x y : Table) : halves (lift x) (lift y) = lift (joined x y) := whole_ext fun b s h d => by
  rw [halves_apply, lift_apply, lift_apply, lift_apply, joined]
  split <;> rfl

theorem halves_self (X : Whole) : halves X X = X := whole_ext fun b s h d => by rw [halves_apply, ite_self]

/-- With nothing lost on the wire this is the plain reference. -/
theorem wireRef_plain (Q K V : Whole) (hk : wireArr K = K) (hv : wireArr V = V) : wireRef Q K V = refAtt Q K V := by
  rw [wireRef, hk, hv, halves_self, halves_self, halves_self]

/-- The place in the whole sequence of place `s` of half `t`. -/
def place (t : Fin 2) (s : Fin 512) : Fin 1024 := ⟨t.val * 512 + s.val, by omega⟩

/-- A half of a table, at one batch and head. -/
def part (x : Table) (b : Fin 2) (h : Fin 8) (t : Fin 2) : Fin 512 → Fin 64 → ℝ := fun j d => x b (place t j) h d

theorem joined_glue (x y : Table) (b : Fin 2) (h : Fin 8) :
    (fun j => joined x y b j h) = glue (part x b h 0) (part y b h 1) := by
  funext j d
  unfold joined glue part
  split
  · exact congrArg (fun s => x b s h d) (Fin.ext (by simp [place]))
  · exact congrArg (fun s => y b s h d) (Fin.ext (by simp only [place]; show j.val = 1 * 512 + (j.val - 512); omega))

/-- A half of an array, at one batch, head and place of the head. -/
def column (X : Whole) (b : Fin 2) (h : Fin 8) (d : Fin 64) (t : Fin 2) : Fin 512 → EReal := fun j => X (ix4 b (place t j) h d)

theorem halves_glue (X Y : Whole) (b : Fin 2) (h : Fin 8) (d : Fin 64) :
    (fun j => halves X Y (ix4 b j h d)) = glue (column X b h d 0) (column Y b h d 1) := by
  funext j
  rw [halves_apply]
  unfold glue column
  split
  · exact congrArg (fun s => X (ix4 b s h d)) (Fin.ext (by simp [place]))
  · exact congrArg (fun s => Y (ix4 b s h d)) (Fin.ext (by simp only [place]; show j.val = 1 * 512 + (j.val - 512); omega))

end Cert.Attn

end
-- ==== Proof.Attn.Blocks.lean ====
/- The kernel's result on a device, for operands that are its blocks of arrays of which the first two are real. -/
module

public import proofs.«01_k».proof.Proof.Attn.Payloads
public import proofs.«01_k».proof.Proof.Attn.Wire
public import proofs.«01_k».proof.Proof.Attn.Launch
public import Idealize.ShloMosaic.Lib.Layout

@[expose] public section

set_option maxRecDepth 16384

noncomputable section

namespace Cert.Attn

open Idealize.ShloMosaic Idealize.ShloMosaic.TcCoe Cert.KernelIdeal Cert.KernelIdeal.Gen

/-- The half of the sequence a device holds. -/
def side (c : Dev nD) : Fin 2 := ⟨c.val / 16 % 2, Nat.mod_lt _ (by decide)⟩

theorem side_peer (c : Dev nD) : side (peerOf c) = 1 - side c := by revert c; decide

/-- A device's block of a whole array. -/
abbrev blockOf (c : Dev nD) (X : Whole) : FVec Ideal S2x512x8x64 .f32 :=
  Layout.blockN ⟨4, ![2, 512, 8, 64]⟩ ⟨4, ![2, 1024, 8, 64]⟩ (Layout.meshBlock [2, 4, 4] ![[], [0], [], []] c) X

theorem blockOf_apply (c : Dev nD) (X : Whole) (b : Fin 2) (s : Fin 512) (h : Fin 8) (d : Fin 64) :
    blockOf c X (ix4 b s h d) = X (ix4 b (place (side c) s) h d) := by
  refine congrArg X (funext fun a => Fin.ext ?_)
  rw [Layout.TilesN.idx_val]
  fin_cases a
  · show 0 * 2 + b.val = b.val; omega
  · show (c.val / (4 * (4 * 1)) % 2 * 1 + 0) * 512 + s.val = c.val / 16 % 2 * 512 + s.val; omega
  · show 0 * 8 + h.val = h.val; omega
  · show 0 * 64 + d.val = d.val; omega

/-! ## The operations around the kernel -/

variable (m : (ℓ : Loc nD τ sig) → Buf (Elt Ideal) ℓ)

/-- What the operations before the kernel make of a block. -/
def folded (X : FVec Ideal S2x512x8x64 .f32) : Vec Ideal S16x512x64 .f32 :=
  shapeCast S16x512x64 (transpose S2x8x512x64 [0, 2, 1, 3] X transposes_S2x512x8x64_S2x8x512x64_0_2_1_3) shapeCasts_S2x8x512x64_S16x512x64
/-- What the operations behind it make of its result. -/
def unfolded (X : Vec Ideal S16x512x64 .f32) : FVec Ideal S2x512x8x64 .f32 :=
  transpose S2x512x8x64 [0, 2, 1, 3] (shapeCast S2x8x512x64 X shapeCasts_S16x512x64_S2x8x512x64) transposes_S2x8x512x64_S2x512x8x64_0_2_1_3

theorem qArr_eq (c : Dev nD) : qArr m c = folded (m ((c.tc : Thread nD τ).loc main_arg0)) := by
  unfold qArr U₁ folded
  after_results
  rfl
theorem kArr_eq (c : Dev nD) : kArr m c = folded (m ((c.tc : Thread nD τ).loc main_arg1)) := by
  unfold kArr U₁ folded
  after_results
  rfl
theorem vArr_eq (c : Dev nD) : vArr m c = folded (m ((c.tc : Thread nD τ).loc main_arg2)) := by
  unfold vArr U₁ folded
  after_results
  rfl
theorem result_eq (c : Dev nD) : U₃ m c (Proc.devRef .tc main_v9) = unfolded (outBuf m c) := by
  rw [← U₂_out m c]
  unfold U₃ unfolded
  after_results
  rfl

/-- Where a batch and a head lie together. -/
def pair (b : Fin 2) (h : Fin 8) : Fin 16 := ⟨b.val * 8 + h.val, by omega⟩

theorem folded_apply (X : FVec Ideal S2x512x8x64 .f32) (b : Fin 2) (h : Fin 8) (s : Fin 512) (d : Fin 64) :
    folded X (ix3 (pair b h) s d) = X (ix4 b s h d) := by
  pointwise [folded, pair]

theorem unfolded_apply (X : Vec Ideal S16x512x64 .f32) (b : Fin 2) (h : Fin 8) (s : Fin 512) (d : Fin 64) :
    unfolded X (ix4 b s h d) = X (ix3 (pair b h) s d) := by
  pointwise [unfolded, pair]

/-! ## The result over real queries and keys, for any values -/

theorem row_at (i : Fin 16) (j : S1x512x64.Idx) : (rowR i).emb j = ix3 i (j 1) (j 2) := by
  funext a
  refine Fin.ext ((rowR_emb i j a).trans ?_)
  have h0 : (j 0).val = 0 := Nat.lt_one_iff.mp (j 0).isLt
  fin_cases a
  · show i.val + (j 0).val = i.val; omega
  · exact Nat.zero_add _
  · exact Nat.zero_add _

theorem inRow_ix (i : Fin 16) (s : Fin 512) (d : Fin 64) : inRow (ix3 i s d) = ix3 0 s d := by
  funext a
  fin_cases a <;> rfl

/-- A row of an operand that is a block of an array. -/
theorem row_block (X : Whole) (c : Dev nD) (b : Fin 2) (h : Fin 8) (j : S1x512x64.Idx) :
    rowOf (folded (blockOf c X)) (pair b h) j = X (ix4 b (place (side c) (j 1)) h (j 2)) := by
  show folded (blockOf c X) ((rowR (pair b h)).emb j) = _
  rw [row_at]
  exact (folded_apply _ b h (j 1) (j 2)).trans (blockOf_apply c X b (j 1) h (j 2))

theorem row_lift (x : Table) (c : Dev nD) (b : Fin 2) (h : Fin 8) :
    rowOf (folded (blockOf c (lift x))) (pair b h) = liftRow (part x b h (side c)) := funext fun j => row_block (lift x) c b h j

variable {m} {q k : Table} {V : Whole}
  (h0 : ∀ c : Dev nD, m ((c.tc : Thread nD τ).loc main_arg0) = blockOf c (lift q))
  (h1 : ∀ c : Dev nD, m ((c.tc : Thread nD τ).loc main_arg1) = blockOf c (lift k))
  (h2 : ∀ c : Dev nD, m ((c.tc : Thread nD τ).loc main_arg2) = blockOf c V)

/-- A result of half `t`: its half of the keys plain, the other half through the wire. -/
def mixed (q k : Table) (V : Whole) (b : Fin 2) (t : Fin 2) (s : Fin 512) (h : Fin 8) (d : Fin 64) : EReal :=
  (numer (part q b h t s) (part k b h t) (column V b h d t)
      + numer (part q b h t s) (part (wireTable k) b h (1 - t)) (column (wireArr V) b h d (1 - t)))
    * ((1 / (denom (part q b h t s) (part k b h t) + denom (part q b h t s) (part (wireTable k) b h (1 - t))) : ℝ) : EReal)

include h0 h1 h2 in
/-- A device's result at an index. -/
theorem result_at (c : Dev nD) (b : Fin 2) (s : Fin 512) (h : Fin 8) (d : Fin 64) :
    U₃ m c (Proc.devRef .tc main_v9) (ix4 b s h d) = mixed q k V b (side c) s h d := by
  rw [result_eq, unfolded_apply]
  show outRow (qArr m) (kArr m) (vArr m) c (pair b h) (inRow (ix3 (pair b h) s d)) = _
  rw [inRow_ix]
  unfold outRow ownO ownL
  rw [bytes_keys, bytes_vals, pay40_eq, qArr_eq, kArr_eq, vArr_eq, kArr_eq, vArr_eq, h0, h1, h2, h1, h2,
    row_lift, row_lift, row_lift]
  rw [side_peer]
  refine (row_value _ _ _ _ _ s d).trans ?_
  unfold mixed column
  simp only [row_block, wireArr_apply, side_peer]
  rfl

/-- The reference with the exchanged rows quantised, at an index of either half. -/
theorem wireRef_at (q k : Table) (V : Whole) (b : Fin 2) (t : Fin 2) (s : Fin 512) (h : Fin 8) (d : Fin 64) :
    wireRef (lift q) (lift k) V (ix4 b (place t s) h d) = mixed q k V b t s h d := by
  rw [wireRef, wireArr_lift, halves_lift, halves_lift, halves_apply,
    refAtt_real, refAtt_real, joined_glue, joined_glue, halves_glue, halves_glue, att_glue, att_glue]
  fin_cases t
  · exact if_pos (show 0 * 512 + s.val < 512 by omega)
  · refine (if_neg (show ¬1 * 512 + s.val < 512 by omega)).trans ?_
    rw [add_comm (numer _ _ _), add_comm (denom _ _)]
    rfl

include h0 h1 h2 in
/-- The program's result is the reference's, block by block. -/
theorem result_block (c : Dev nD) : U₃ m c (Proc.devRef .tc main_v9) = blockOf c (wireRef (lift q) (lift k) V) := by
  refine funext fun i => ?_
  obtain ⟨b, s, h, d, rfl⟩ : ∃ (b : Fin 2) (s : Fin 512) (h : Fin 8) (d : Fin 64), i = ix4 b s h d := ⟨_, _, _, _, eq_ix4 i⟩
  rw [result_at h0 h1 h2, blockOf_apply, wireRef_at]

end Cert.Attn

end
-- ==== Proof.Attn.Value.lean ====
/- The claims on values: what the preconditions say of the arrays, and the two programs' results. -/
module

public import proofs.«01_k».proof.Proof.Attn.Blocks
public import proofs.«01_k».proof.Proof.Attn.Frames
public import Idealize.ShloMosaic.Lib.ReduceAll

@[expose] public section

set_option maxRecDepth 16384

noncomputable section

namespace Cert.Attn

open Idealize.ShloMosaic Idealize.ShloMosaic.TcCoe Idealize.SL.Sem

abbrev Part : Type := FVec Ideal Cert.KernelIdeal.S2x512x8x64 .f32

/-! ## Reading the preconditions -/

instance : Subsingleton (⟨0, ![]⟩ : Shape).Idx := ⟨fun _ _ => funext fun a => a.elim0⟩

/-- A number whose size is below infinity is a real. -/
theorem real_of_lt (x : EReal) (h : Ideal.cmp .olt (max x (-x)) (Ideal.ofBits .f32 0x7F800000#32) = 1#1) : ∃ r : ℝ, x = (r : EReal) := by
  rw [bits_top] at h
  have h : max x (-x) < ⊤ := by
    by_contra hn
    rw [show Ideal.cmp .olt (max x (-x)) ⊤ = BitVec.ofBool (decide (max x (-x) < ⊤)) from rfl, decide_eq_false hn] at h
    exact absurd h (by decide)
  induction x with
  | bot => simp at h
  | top => simp at h
  | coe r => exact ⟨r, rfl⟩

theorem eq_of_oeq (x y : EReal) (h : Ideal.cmp .oeq x y = 1#1) : x = y := by
  by_contra hn
  rw [show Ideal.cmp .oeq x y = BitVec.ofBool (decide (x = y)) from rfl, decide_eq_false hn] at h
  exact absurd h (by decide)

section
open Cert.Pre_finite_KernelIdeal

theorem finite_read (A B C : Part) (e : fn (F := Ideal) A B C = fun _ => 1#1) :
    (∀ i, ∃ r : ℝ, A i = (r : EReal)) ∧ (∀ i, ∃ r : ℝ, B i = (r : EReal)) := by
  have e := congrFun e ix0
  dsimp only [fn] at e
  obtain ⟨e1, e2⟩ := IntOp.andi_eq_one.1 e
  exact ⟨fun i => real_of_lt _ (Host.reduce_andi_all _ _ _ _ _ e1 i), fun i => real_of_lt _ (Host.reduce_andi_all _ _ _ _ _ e2 i)⟩

end

/-- The quantiser of one number. -/
def wireOf (x : EReal) : EReal :=
  min (max (Ideal.liftRound Ideal.roundHalfEven (x * Ideal.ofBits .f32 0x41C00000#32)) (Ideal.ofBits .f32 0xC3000000#32))
    (Ideal.ofBits .f32 0x42FE0000#32) * Ideal.ofBits .f32 0x3D2AAAAB#32

section
open Cert.Pre_on_wire_KernelIdeal

theorem on_wire_read (A B C : Part) (e : fn (F := Ideal) A B C = fun _ => 1#1) :
    (∀ i, ∃ r : ℝ, A i = (r : EReal)) ∧ (∀ i, wireOf (B i) = B i) ∧ (∀ i, wireOf (C i) = C i) := by
  have e := congrFun e ix0
  dsimp only [fn, fn_part1] at e
  obtain ⟨e, e3⟩ := IntOp.andi_eq_one.1 e
  obtain ⟨e1, e2⟩ := IntOp.andi_eq_one.1 e
  exact ⟨fun i => real_of_lt _ (Host.reduce_andi_all _ _ _ _ _ e1 i), fun i => eq_of_oeq _ _ (Host.reduce_andi_all _ _ _ _ _ e2 i),
    fun i => eq_of_oeq _ _ (Host.reduce_andi_all _ _ _ _ _ e3 i)⟩

end

/-! ## From the blocks to the whole arrays -/

/-- A device holding a given half. -/
def holder (t : Fin 2) : Dev Cert.KernelIdeal.nD := ⟨t.val * 16, by have : t.val < 2 := t.isLt; show _ < 32; omega⟩

theorem side_holder (t : Fin 2) : side (holder t) = t := by revert t; decide

/-- What holds of every number of every block holds of every number of the array. -/
theorem whole_of_blocks (P : EReal → Prop) (X : Whole) (hX : ∀ c i, P (blockOf c X i)) (i : Cert.ReferenceIdeal.S2x1024x8x64.Idx) : P (X i) := by
  obtain ⟨b, s, h, d, rfl⟩ : ∃ (b : Fin 2) (s : Fin 1024) (h : Fin 8) (d : Fin 64), i = ix4 b s h d := ⟨_, _, _, _, eq_ix4 i⟩
  have hs : s = place ⟨s.val / 512, by omega⟩ ⟨s.val % 512, by omega⟩ := Fin.ext (by simp only [place]; omega)
  have e := hX (holder ⟨s.val / 512, by omega⟩) (ix4 b ⟨s.val % 512, by omega⟩ h d)
  rwa [blockOf_apply, side_holder, ← hs] at e

/-- An array of real numbers is a table. -/
theorem table_of (X : Whole) (hX : ∀ i, ∃ r : ℝ, X i = (r : EReal)) : ∃ x : Table, X = lift x :=
  ⟨fun b s h d => (hX (ix4 b s h d)).choose, whole_ext fun b s h d => (hX (ix4 b s h d)).choose_spec⟩

theorem wireArr_of (X : Whole) (hX : ∀ i, wireOf (X i) = X i) : wireArr X = X := by
  funext i
  rw [wireArr_apply, ← wire_value, ← bits_inv_step, ← bits_lo, ← bits_hi, ← bits_step]
  exact hX i

/-- An array the wire leaves alone is one of real numbers. -/
theorem real_of_wire (X : Whole) (hX : wireArr X = X) (i : Cert.ReferenceIdeal.S2x1024x8x64.Idx) : ∃ r : ℝ, X i = (r : EReal) :=
  ⟨onWire (X i), (congrFun hX i).symm.trans (wireArr_apply X i)⟩

/-! ## The claims -/

theorem value_wire : Cert.algebraic_KernelIdeal_WireReferenceIdeal_pre_finite_KernelIdeal := by
  intro m g m' g' hpre hargs
  have hfin := fun c => finite_read _ _ _ (hpre c)
  obtain ⟨q, hq⟩ := table_of _ (whole_of_blocks (fun x => ∃ r : ℝ, x = (r : EReal)) _ fun c i => by
    have := (hfin c).1 i
    rwa [(hargs c).1] at this)
  obtain ⟨k, hk⟩ := table_of _ (whole_of_blocks (fun x => ∃ r : ℝ, x = (r : EReal)) _ fun c i => by
    have := (hfin c).2 i
    rwa [(hargs c).2.1] at this)
  refine ⟨wireRef (lift q) (lift k) (m' ((0 : Dev Cert.WireReferenceIdeal.nD).tc.loc Cert.WireReferenceIdeal.main_arg2)), ?_, ?_⟩
  · refine (θ_run _ _ _).mono (fun _ h c => ?_) (run_main m g)
    refine ⟨(h.1 c).1.trans (result_block (fun c => ?_) (fun c => ?_) (fun c => ?_) c), (h.1 c).2⟩
    · rw [← hq]; exact (hargs c).1
    · rw [← hk]; exact (hargs c).2.1
    · exact (hargs c).2.2
  · refine (θ_run _ _ _).mono (fun _ h => ⟨(h 0).1.trans ?_, (h 0).2⟩) (Cert.WireReferenceIdeal.Value.run m' g')
    rw [wire_printed, hq, hk]

theorem value_plain : Cert.algebraic_KernelIdeal_ReferenceIdeal_pre_on_wire_KernelIdeal := by
  intro m g m' g' hpre hargs
  have hon := fun c => on_wire_read _ _ _ (hpre c)
  obtain ⟨q, hq⟩ := table_of _ (whole_of_blocks (fun x => ∃ r : ℝ, x = (r : EReal)) _ fun c i => by
    have := (hon c).1 i
    rwa [(hargs c).1] at this)
  have wk := wireArr_of _ (whole_of_blocks (fun x => wireOf x = x) _ fun c i => by
    have := (hon c).2.1 i
    rwa [(hargs c).2.1] at this)
  have wv := wireArr_of _ (whole_of_blocks (fun x => wireOf x = x) _ fun c i => by
    have := (hon c).2.2 i
    rwa [(hargs c).2.2] at this)
  obtain ⟨k, hk⟩ := table_of _ (real_of_wire _ wk)
  refine ⟨refAtt (lift q) (lift k) (m' ((0 : Dev Cert.ReferenceIdeal.nD).tc.loc Cert.ReferenceIdeal.main_arg2)), ?_, ?_⟩
  · refine (θ_run _ _ _).mono (fun _ h c => ?_) (run_main m g)
    rw [← wireRef_plain (lift q) (lift k) _ (hk ▸ wk) wv]
    refine ⟨(h.1 c).1.trans (result_block (fun c => ?_) (fun c => ?_) (fun c => ?_) c), (h.1 c).2⟩
    · rw [← hq]; exact (hargs c).1
    · rw [← hk]; exact (hargs c).2.1
    · exact (hargs c).2.2
  · refine (θ_run _ _ _).mono (fun _ h => ⟨(h 0).1.trans ?_, (h 0).2⟩) (Cert.ReferenceIdeal.Value.run m' g')
    rw [← hq, ← hk]
    rfl

end Cert.Attn

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.WireReferenceIdeal
public import proofs.«01_k».proof.Proof.Attn.Frames
public import proofs.«01_k».proof.Proof.Attn.Value

@[expose] public section

noncomputable section

namespace Cert.Proof

theorem claim : Cert.Claim :=
  ⟨Cert.Kernel.Gen.facts, Cert.KernelIdeal.Gen.facts, Cert.ReferenceIdeal.Gen.facts, Cert.WireReferenceIdeal.Gen.facts,
    inferInstance, inferInstance, inferInstance, inferInstance,
    Cert.Attn.frame_kernel, Cert.Attn.frame_ideal,
    fun m ρ _ => Cert.Attn.frame_ideal m ρ trivial, fun m ρ _ => Cert.Attn.frame_ideal m ρ trivial,
    Cert.Attn.frame_reference, fun m ρ _ => Cert.Attn.frame_reference m ρ trivial,
    Cert.Attn.frame_wire, fun m ρ _ => Cert.Attn.frame_wire m ρ trivial,
    trivial, Cert.Attn.value_wire, Cert.Attn.value_plain⟩

end Cert.Proof

end
